-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S4096x64 : Shape := ⟨2, ![4096, 64]⟩
abbrev S_ : Shape := ⟨0, ![]⟩

class Facts : Prop where
  bcast_S_S4096x64 : S_.BroadcastsInDim S4096x64 (![] : Fin 0 → Fin S4096x64.rank)

variable [Facts]

def fn {F : FTy → Type} [FloatOps F] (main_arg0 : FVec F S4096x64 .f32) : IVec S4096x64 1 :=
  let main_cst : FVec F S_ .f32 := constant S_ .f32 0x7F800000#32
  let main_v0 : FVec F S4096x64 .f32 := broadcastInDim S4096x64 ![] bcast_S_S4096x64 main_cst
  let main_v1 : IVec S4096x64 1 := cmpf .olt main_arg0 main_v0
  main_v1
-- ==== Kernel.lean ====
abbrev S4096x64 : Shape := ⟨2, ![4096, 64]⟩
abbrev S64x4096 : Shape := ⟨2, ![64, 4096]⟩
abbrev S8x8x4096 : Shape := ⟨3, ![8, 8, 4096]⟩
abbrev S64x256 : Shape := ⟨2, ![64, 256]⟩
abbrev S8x8x256 : Shape := ⟨3, ![8, 8, 256]⟩
abbrev S8x256 : Shape := ⟨2, ![8, 256]⟩
abbrev S1x8x256 : Shape := ⟨3, ![1, 8, 256]⟩

abbrev nBuf : Space → Nat
  | .hbm => 10
  | .vmem => 4
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S8x8x4096, .f32⟩
  | .hbm, ⟨3, _⟩ => ⟨S8x8x4096, .f32⟩
  | .hbm, ⟨4, _⟩ => ⟨S64x4096, .f32⟩
  | .hbm, ⟨5, _⟩ => ⟨S64x4096, .f32⟩
  | .hbm, ⟨6, _⟩ => ⟨S8x8x4096, .f32⟩
  | .hbm, ⟨7, _⟩ => ⟨S8x8x4096, .f32⟩
  | .hbm, ⟨8, _⟩ => ⟨S64x4096, .f32⟩
  | .hbm, ⟨9, _⟩ => ⟨S4096x64, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c20_i32 : BitVec 32 := 20#32
  let v4 : BitVec 32 := Scalar.addi c0_i32 c20_i32
  let c1_i32 : BitVec 32 := 1#32
  ⟨c0_i32, v4, c1_i32⟩
@[reducible] def k0_t2_loop : Scf.Loop 32 :=
  let c0_i32_7 : BitVec 32 := 0#32
  let c25_i32 : BitVec 32 := 25#32
  let v19 : BitVec 32 := Scalar.addi c0_i32_7 c25_i32
  let c1_i32_8 : BitVec 32 := 1#32
  ⟨c0_i32_7, v19, c1_i32_8⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x64 : Shape := ⟨2, ![4096, 64]⟩
abbrev S8x16 : Shape := ⟨2, ![8, 16]⟩
abbrev S8 : Shape := ⟨1, ![8]⟩
abbrev S1x8x16 : Shape := ⟨3, ![1, 8, 16]⟩
abbrev S1x8x1 : Shape := ⟨3, ![1, 8, 1]⟩
abbrev S_ : Shape := ⟨0, ![]⟩
abbrev S64 : Shape := ⟨1, ![64]⟩
abbrev S128 : Shape := ⟨1, ![128]⟩
abbrev S128x1 : Shape := ⟨2, ![128, 1]⟩
abbrev S4096x8x16 : Shape := ⟨3, ![4096, 8, 16]⟩
abbrev S8x16x1 : Shape := ⟨3, ![8, 16, 1]⟩
abbrev S4096x8 : Shape := ⟨2, ![4096, 8]⟩
abbrev S4096x8x1 : Shape := ⟨3, ![4096, 8, 1]⟩
abbrev S4096x128 : Shape := ⟨2, ![4096, 128]⟩
abbrev S1x64 : Shape := ⟨2, ![1, 64]⟩

abbrev nBuf : Space → Nat
  | .hbm => 671
  | .vmem => 0
  | .smem => 0
  | _ => 0

abbrev hbmTy0_0 (i : Nat) : BufTy := match i % 128 with
  | 0 => ⟨S4096x64, .f32⟩
  | 1 => ⟨S8x16, .i32⟩
  | 2 => ⟨S8x16, .f32⟩
  | 3 => ⟨S8x16, .f32⟩
  | 4 => ⟨S8, .f32⟩
  | 5 => ⟨S1x8x16, .f32⟩
  | 6 => ⟨S1x8x16, .f32⟩
  | 7 => ⟨S1x8x1, .f32⟩
  | 8 => ⟨S_, .f32⟩
  | 9 => ⟨S64, .f32⟩
  | 10 => ⟨S128, .i32⟩
  | 11 => ⟨S_, .i32⟩
  | 12 => ⟨S128, .i32⟩
  | 13 => ⟨S128, .i1⟩
  | 14 => ⟨S_, .i32⟩
  | 15 => ⟨S128, .i32⟩
  | 16 => ⟨S128, .i32⟩
  | 17 => ⟨S128, .i32⟩
  | 18 => ⟨S128x1, .i32⟩
  | 19 => ⟨S_, .f32⟩
  | 20 => ⟨S128, .f32⟩
  | 21 => ⟨S64, .f32⟩
  | 22 => ⟨S_, .f32⟩
  | 23 => ⟨S4096x8x16, .f32⟩
  | 24 => ⟨S_, .f32⟩
  | 25 => ⟨S1x8x16, .f32⟩
  | 26 => ⟨S1x8x16, .f32⟩
  | 27 => ⟨S_, .i32⟩
  | 28 => ⟨S_, .i32⟩
  | 29 => ⟨S8x16, .i32⟩
  | 30 => ⟨S1x8x16, .f32⟩
  | 31 => ⟨S1x8x16, .f32⟩
  | 32 => ⟨S1x8x1, .f32⟩
  | 33 => ⟨S64, .f32⟩
  | 34 => ⟨S4096x64, .f32⟩
  | 35 => ⟨S_, .i32⟩
  | 36 => ⟨S_, .i32⟩
  | 37 => ⟨S4096x64, .f32⟩
  | 38 => ⟨S4096x8x16, .f32⟩
  | 39 => ⟨S_, .i32⟩
  | 40 => ⟨S_, .i1⟩
  | 41 => ⟨S_, .i32⟩
  | 42 => ⟨S_, .i32⟩
  | 43 => ⟨S_, .i32⟩
  | 44 => ⟨S8x16, .i32⟩
  | 45 => ⟨S8x16, .i1⟩
  | 46 => ⟨S_, .i32⟩
  | 47 => ⟨S8x16, .i32⟩
  | 48 => ⟨S8x16, .i32⟩
  | 49 => ⟨S8x16, .i32⟩
  | 50 => ⟨S8x16x1, .i32⟩
  | 51 => ⟨S4096x8x16, .f32⟩
  | 52 => ⟨S4096x8x16, .f32⟩
  | 53 => ⟨S_, .f32⟩
  | 54 => ⟨S1x8x16, .f32⟩
  | 55 => ⟨S1x8x16, .i1⟩
  | 56 => ⟨S_, .f32⟩
  | 57 => ⟨S4096x8x16, .f32⟩
  | 58 => ⟨S4096x8x16, .f32⟩
  | 59 => ⟨S4096x8x16, .i1⟩
  | 60 => ⟨S4096x8x16, .f32⟩
  | 61 => ⟨S4096x8x16, .f32⟩
  | 62 => ⟨S4096x8x16, .f32⟩
  | 63 => ⟨S_, .f32⟩
  | 64 => ⟨S_, .f32⟩
  | 65 => ⟨S_, .f32⟩
  | 66 => ⟨S4096x8x16, .f32⟩
  | 67 => ⟨S4096x8x16, .f32⟩
  | 68 => ⟨S_, .f32⟩
  | 69 => ⟨S4096x8x16, .f32⟩
  | 70 => ⟨S4096x8x16, .f32⟩
  | 71 => ⟨S_, .f32⟩
  | 72 => ⟨S4096x8, .f32⟩
  | 73 => ⟨S4096x8x1, .f32⟩
  | 74 => ⟨S4096x8x1, .f32⟩
  | 75 => ⟨S4096x8x1, .i1⟩
  | 76 => ⟨S_, .f32⟩
  | 77 => ⟨S4096x8x1, .f32⟩
  | 78 => ⟨S_, .f32⟩
  | 79 => ⟨S4096x8, .f32⟩
  | 80 => ⟨S4096x8x1, .f32⟩
  | 81 => ⟨S_, .f32⟩
  | 82 => ⟨S4096x8x1, .f32⟩
  | 83 => ⟨S4096x8x1, .f32⟩
  | 84 => ⟨S4096x8x1, .f32⟩
  | 85 => ⟨S_, .f32⟩
  | 86 => ⟨S4096x8x1, .f32⟩
  | 87 => ⟨S4096x8x1, .f32⟩
  | 88 => ⟨S4096x8x16, .f32⟩
  | 89 => ⟨S4096x8x16, .f32⟩
  | 90 => ⟨S_, .f32⟩
  | 91 => ⟨S_, .f32⟩
  | 92 => ⟨S_, .f32⟩
  | 93 => ⟨S4096x8x16, .f32⟩
  | 94 => ⟨S4096x8x16, .f32⟩
  | 95 => ⟨S_, .f32⟩
  | 96 => ⟨S4096x8x16, .f32⟩
  | 97 => ⟨S4096x8x16, .f32⟩
  | 98 => ⟨S_, .f32⟩
  | 99 => ⟨S4096x8, .f32⟩
  | 100 => ⟨S4096x8x1, .f32⟩
  | 101 => ⟨S4096x8x1, .f32⟩
  | 102 => ⟨S4096x8x1, .i1⟩
  | 103 => ⟨S4096x8x1, .f32⟩
  | 104 => ⟨S4096x8x1, .f32⟩
  | 105 => ⟨S4096x8x1, .f32⟩
  | 106 => ⟨S_, .f32⟩
  | 107 => ⟨S4096x8x1, .f32⟩
  | 108 => ⟨S4096x8x1, .f32⟩
  | 109 => ⟨S4096x8x16, .f32⟩
  | 110 => ⟨S4096x8x16, .f32⟩
  | 111 => ⟨S_, .f32⟩
  | 112 => ⟨S_, .f32⟩
  | 113 => ⟨S_, .f32⟩
  | 114 => ⟨S4096x8x16, .f32⟩
  | 115 => ⟨S4096x8x16, .f32⟩
  | 116 => ⟨S_, .f32⟩
  | 117 => ⟨S4096x8x16, .f32⟩
  | 118 => ⟨S4096x8x16, .f32⟩
  | 119 => ⟨S_, .f32⟩
  | 120 => ⟨S4096x8, .f32⟩
  | 121 => ⟨S4096x8x1, .f32⟩
  | 122 => ⟨S4096x8x1, .f32⟩
  | 123 => ⟨S4096x8x1, .i1⟩
  | 124 => ⟨S4096x8x1, .f32⟩
  | 125 => ⟨S4096x8x1, .f32⟩
  | 126 => ⟨S4096x8x1, .f32⟩
  | 127 => ⟨S_, .f32⟩
  | _ => ⟨S4096x64, .f32⟩

abbrev hbmTy0_1 (i : Nat) : BufTy := match i % 128 with
  | 0 => ⟨S4096x8x1, .f32⟩
  | 1 => ⟨S4096x8x1, .f32⟩
  | 2 => ⟨S4096x8x16, .f32⟩
  | 3 => ⟨S4096x8x16, .f32⟩
  | 4 => ⟨S_, .f32⟩
  | 5 => ⟨S_, .f32⟩
  | 6 => ⟨S_, .f32⟩
  | 7 => ⟨S4096x8x16, .f32⟩
  | 8 => ⟨S4096x8x16, .f32⟩
  | 9 => ⟨S_, .f32⟩
  | 10 => ⟨S4096x8x16, .f32⟩
  | 11 => ⟨S4096x8x16, .f32⟩
  | 12 => ⟨S_, .f32⟩
  | 13 => ⟨S4096x8, .f32⟩
  | 14 => ⟨S4096x8x1, .f32⟩
  | 15 => ⟨S4096x8x1, .f32⟩
  | 16 => ⟨S4096x8x1, .i1⟩
  | 17 => ⟨S4096x8x1, .f32⟩
  | 18 => ⟨S4096x8x1, .f32⟩
  | 19 => ⟨S4096x8x1, .f32⟩
  | 20 => ⟨S_, .f32⟩
  | 21 => ⟨S4096x8x1, .f32⟩
  | 22 => ⟨S4096x8x1, .f32⟩
  | 23 => ⟨S4096x8x16, .f32⟩
  | 24 => ⟨S4096x8x16, .f32⟩
  | 25 => ⟨S_, .f32⟩
  | 26 => ⟨S_, .f32⟩
  | 27 => ⟨S_, .f32⟩
  | 28 => ⟨S4096x8x16, .f32⟩
  | 29 => ⟨S4096x8x16, .f32⟩
  | 30 => ⟨S_, .f32⟩
  | 31 => ⟨S4096x8x16, .f32⟩
  | 32 => ⟨S4096x8x16, .f32⟩
  | 33 => ⟨S_, .f32⟩
  | 34 => ⟨S4096x8, .f32⟩
  | 35 => ⟨S4096x8x1, .f32⟩
  | 36 => ⟨S4096x8x1, .f32⟩
  | 37 => ⟨S4096x8x1, .i1⟩
  | 38 => ⟨S4096x8x1, .f32⟩
  | 39 => ⟨S4096x8x1, .f32⟩
  | 40 => ⟨S4096x8x1, .f32⟩
  | 41 => ⟨S_, .f32⟩
  | 42 => ⟨S4096x8x1, .f32⟩
  | 43 => ⟨S4096x8x1, .f32⟩
  | 44 => ⟨S4096x8x16, .f32⟩
  | 45 => ⟨S4096x8x16, .f32⟩
  | 46 => ⟨S_, .f32⟩
  | 47 => ⟨S_, .f32⟩
  | 48 => ⟨S_, .f32⟩
  | 49 => ⟨S4096x8x16, .f32⟩
  | 50 => ⟨S4096x8x16, .f32⟩
  | 51 => ⟨S_, .f32⟩
  | 52 => ⟨S4096x8x16, .f32⟩
  | 53 => ⟨S4096x8x16, .f32⟩
  | 54 => ⟨S_, .f32⟩
  | 55 => ⟨S4096x8, .f32⟩
  | 56 => ⟨S4096x8x1, .f32⟩
  | 57 => ⟨S4096x8x1, .f32⟩
  | 58 => ⟨S4096x8x1, .i1⟩
  | 59 => ⟨S4096x8x1, .f32⟩
  | 60 => ⟨S4096x8x1, .f32⟩
  | 61 => ⟨S4096x8x1, .f32⟩
  | 62 => ⟨S_, .f32⟩
  | 63 => ⟨S4096x8x1, .f32⟩
  | 64 => ⟨S4096x8x1, .f32⟩
  | 65 => ⟨S4096x8x16, .f32⟩
  | 66 => ⟨S4096x8x16, .f32⟩
  | 67 => ⟨S_, .f32⟩
  | 68 => ⟨S_, .f32⟩
  | 69 => ⟨S_, .f32⟩
  | 70 => ⟨S4096x8x16, .f32⟩
  | 71 => ⟨S4096x8x16, .f32⟩
  | 72 => ⟨S_, .f32⟩
  | 73 => ⟨S4096x8x16, .f32⟩
  | 74 => ⟨S4096x8x16, .f32⟩
  | 75 => ⟨S_, .f32⟩
  | 76 => ⟨S4096x8, .f32⟩
  | 77 => ⟨S4096x8x1, .f32⟩
  | 78 => ⟨S4096x8x1, .f32⟩
  | 79 => ⟨S4096x8x1, .i1⟩
  | 80 => ⟨S4096x8x1, .f32⟩
  | 81 => ⟨S4096x8x1, .f32⟩
  | 82 => ⟨S4096x8x1, .f32⟩
  | 83 => ⟨S_, .f32⟩
  | 84 => ⟨S4096x8x1, .f32⟩
  | 85 => ⟨S4096x8x1, .f32⟩
  | 86 => ⟨S4096x8x16, .f32⟩
  | 87 => ⟨S4096x8x16, .f32⟩
  | 88 => ⟨S_, .f32⟩
  | 89 => ⟨S_, .f32⟩
  | 90 => ⟨S_, .f32⟩
  | 91 => ⟨S4096x8x16, .f32⟩
  | 92 => ⟨S4096x8x16, .f32⟩
  | 93 => ⟨S_, .f32⟩
  | 94 => ⟨S4096x8x16, .f32⟩
  | 95 => ⟨S4096x8x16, .f32⟩
  | 96 => ⟨S_, .f32⟩
  | 97 => ⟨S4096x8, .f32⟩
  | 98 => ⟨S4096x8x1, .f32⟩
  | 99 => ⟨S4096x8x1, .f32⟩
  | 100 => ⟨S4096x8x1, .i1⟩
  | 101 => ⟨S4096x8x1, .f32⟩
  | 102 => ⟨S4096x8x1, .f32⟩
  | 103 => ⟨S4096x8x1, .f32⟩
  | 104 => ⟨S_, .f32⟩
  | 105 => ⟨S4096x8x1, .f32⟩
  | 106 => ⟨S4096x8x1, .f32⟩
  | 107 => ⟨S4096x8x16, .f32⟩
  | 108 => ⟨S4096x8x16, .f32⟩
  | 109 => ⟨S_, .f32⟩
  | 110 => ⟨S_, .f32⟩
  | 111 => ⟨S_, .f32⟩
  | 112 => ⟨S4096x8x16, .f32⟩
  | 113 => ⟨S4096x8x16, .f32⟩
  | 114 => ⟨S_, .f32⟩
  | 115 => ⟨S4096x8x16, .f32⟩
  | 116 => ⟨S4096x8x16, .f32⟩
  | 117 => ⟨S_, .f32⟩
  | 118 => ⟨S4096x8, .f32⟩
  | 119 => ⟨S4096x8x1, .f32⟩
  | 120 => ⟨S4096x8x1, .f32⟩
  | 121 => ⟨S4096x8x1, .i1⟩
  | 122 => ⟨S4096x8x1, .f32⟩
  | 123 => ⟨S4096x8x1, .f32⟩
  | 124 => ⟨S4096x8x1, .f32⟩
  | 125 => ⟨S_, .f32⟩
  | 126 => ⟨S4096x8x1, .f32⟩
  | 127 => ⟨S4096x8x1, .f32⟩
  | _ => ⟨S4096x64, .f32⟩

abbrev hbmTy0_2 (i : Nat) : BufTy := match i % 128 with
  | 0 => ⟨S4096x8x16, .f32⟩
  | 1 => ⟨S4096x8x16, .f32⟩
  | 2 => ⟨S_, .f32⟩
  | 3 => ⟨S_, .f32⟩
  | 4 => ⟨S_, .f32⟩
  | 5 => ⟨S4096x8x16, .f32⟩
  | 6 => ⟨S4096x8x16, .f32⟩
  | 7 => ⟨S_, .f32⟩
  | 8 => ⟨S4096x8x16, .f32⟩
  | 9 => ⟨S4096x8x16, .f32⟩
  | 10 => ⟨S_, .f32⟩
  | 11 => ⟨S4096x8, .f32⟩
  | 12 => ⟨S4096x8x1, .f32⟩
  | 13 => ⟨S4096x8x1, .f32⟩
  | 14 => ⟨S4096x8x1, .i1⟩
  | 15 => ⟨S4096x8x1, .f32⟩
  | 16 => ⟨S4096x8x1, .f32⟩
  | 17 => ⟨S4096x8x1, .f32⟩
  | 18 => ⟨S_, .f32⟩
  | 19 => ⟨S4096x8x1, .f32⟩
  | 20 => ⟨S4096x8x1, .f32⟩
  | 21 => ⟨S4096x8x16, .f32⟩
  | 22 => ⟨S4096x8x16, .f32⟩
  | 23 => ⟨S_, .f32⟩
  | 24 => ⟨S_, .f32⟩
  | 25 => ⟨S_, .f32⟩
  | 26 => ⟨S4096x8x16, .f32⟩
  | 27 => ⟨S4096x8x16, .f32⟩
  | 28 => ⟨S_, .f32⟩
  | 29 => ⟨S4096x8x16, .f32⟩
  | 30 => ⟨S4096x8x16, .f32⟩
  | 31 => ⟨S_, .f32⟩
  | 32 => ⟨S4096x8, .f32⟩
  | 33 => ⟨S4096x8x1, .f32⟩
  | 34 => ⟨S4096x8x1, .f32⟩
  | 35 => ⟨S4096x8x1, .i1⟩
  | 36 => ⟨S4096x8x1, .f32⟩
  | 37 => ⟨S4096x8x1, .f32⟩
  | 38 => ⟨S4096x8x1, .f32⟩
  | 39 => ⟨S_, .f32⟩
  | 40 => ⟨S4096x8x1, .f32⟩
  | 41 => ⟨S4096x8x1, .f32⟩
  | 42 => ⟨S4096x8x16, .f32⟩
  | 43 => ⟨S4096x8x16, .f32⟩
  | 44 => ⟨S_, .f32⟩
  | 45 => ⟨S_, .f32⟩
  | 46 => ⟨S_, .f32⟩
  | 47 => ⟨S4096x8x16, .f32⟩
  | 48 => ⟨S4096x8x16, .f32⟩
  | 49 => ⟨S_, .f32⟩
  | 50 => ⟨S4096x8x16, .f32⟩
  | 51 => ⟨S4096x8x16, .f32⟩
  | 52 => ⟨S_, .f32⟩
  | 53 => ⟨S4096x8, .f32⟩
  | 54 => ⟨S4096x8x1, .f32⟩
  | 55 => ⟨S4096x8x1, .f32⟩
  | 56 => ⟨S4096x8x1, .i1⟩
  | 57 => ⟨S4096x8x1, .f32⟩
  | 58 => ⟨S4096x8x1, .f32⟩
  | 59 => ⟨S4096x8x1, .f32⟩
  | 60 => ⟨S_, .f32⟩
  | 61 => ⟨S4096x8x1, .f32⟩
  | 62 => ⟨S4096x8x1, .f32⟩
  | 63 => ⟨S4096x8x16, .f32⟩
  | 64 => ⟨S4096x8x16, .f32⟩
  | 65 => ⟨S_, .f32⟩
  | 66 => ⟨S_, .f32⟩
  | 67 => ⟨S_, .f32⟩
  | 68 => ⟨S4096x8x16, .f32⟩
  | 69 => ⟨S4096x8x16, .f32⟩
  | 70 => ⟨S_, .f32⟩
  | 71 => ⟨S4096x8x16, .f32⟩
  | 72 => ⟨S4096x8x16, .f32⟩
  | 73 => ⟨S_, .f32⟩
  | 74 => ⟨S4096x8, .f32⟩
  | 75 => ⟨S4096x8x1, .f32⟩
  | 76 => ⟨S4096x8x1, .f32⟩
  | 77 => ⟨S4096x8x1, .i1⟩
  | 78 => ⟨S4096x8x1, .f32⟩
  | 79 => ⟨S4096x8x1, .f32⟩
  | 80 => ⟨S4096x8x1, .f32⟩
  | 81 => ⟨S_, .f32⟩
  | 82 => ⟨S4096x8x1, .f32⟩
  | 83 => ⟨S4096x8x1, .f32⟩
  | 84 => ⟨S4096x8x16, .f32⟩
  | 85 => ⟨S4096x8x16, .f32⟩
  | 86 => ⟨S_, .f32⟩
  | 87 => ⟨S_, .f32⟩
  | 88 => ⟨S_, .f32⟩
  | 89 => ⟨S4096x8x16, .f32⟩
  | 90 => ⟨S4096x8x16, .f32⟩
  | 91 => ⟨S_, .f32⟩
  | 92 => ⟨S4096x8x16, .f32⟩
  | 93 => ⟨S4096x8x16, .f32⟩
  | 94 => ⟨S_, .f32⟩
  | 95 => ⟨S4096x8, .f32⟩
  | 96 => ⟨S4096x8x1, .f32⟩
  | 97 => ⟨S4096x8x1, .f32⟩
  | 98 => ⟨S4096x8x1, .i1⟩
  | 99 => ⟨S4096x8x1, .f32⟩
  | 100 => ⟨S4096x8x1, .f32⟩
  | 101 => ⟨S4096x8x1, .f32⟩
  | 102 => ⟨S_, .f32⟩
  | 103 => ⟨S4096x8x1, .f32⟩
  | 104 => ⟨S4096x8x1, .f32⟩
  | 105 => ⟨S4096x8x16, .f32⟩
  | 106 => ⟨S4096x8x16, .f32⟩
  | 107 => ⟨S_, .f32⟩
  | 108 => ⟨S_, .f32⟩
  | 109 => ⟨S_, .f32⟩
  | 110 => ⟨S4096x8x16, .f32⟩
  | 111 => ⟨S4096x8x16, .f32⟩
  | 112 => ⟨S_, .f32⟩
  | 113 => ⟨S4096x8x16, .f32⟩
  | 114 => ⟨S4096x8x16, .f32⟩
  | 115 => ⟨S_, .f32⟩
  | 116 => ⟨S4096x8, .f32⟩
  | 117 => ⟨S4096x8x1, .f32⟩
  | 118 => ⟨S4096x8x1, .f32⟩
  | 119 => ⟨S4096x8x1, .i1⟩
  | 120 => ⟨S4096x8x1, .f32⟩
  | 121 => ⟨S4096x8x1, .f32⟩
  | 122 => ⟨S4096x8x1, .f32⟩
  | 123 => ⟨S_, .f32⟩
  | 124 => ⟨S4096x8x1, .f32⟩
  | 125 => ⟨S4096x8x1, .f32⟩
  | 126 => ⟨S4096x8x16, .f32⟩
  | 127 => ⟨S4096x8x16, .f32⟩
  | _ => ⟨S4096x64, .f32⟩

abbrev hbmTy0_3 (i : Nat) : BufTy := match i % 128 with
  | 0 => ⟨S_, .f32⟩
  | 1 => ⟨S_, .f32⟩
  | 2 => ⟨S_, .f32⟩
  | 3 => ⟨S4096x8x16, .f32⟩
  | 4 => ⟨S4096x8x16, .f32⟩
  | 5 => ⟨S_, .f32⟩
  | 6 => ⟨S4096x8x16, .f32⟩
  | 7 => ⟨S4096x8x16, .f32⟩
  | 8 => ⟨S_, .f32⟩
  | 9 => ⟨S4096x8, .f32⟩
  | 10 => ⟨S4096x8x1, .f32⟩
  | 11 => ⟨S4096x8x1, .f32⟩
  | 12 => ⟨S4096x8x1, .i1⟩
  | 13 => ⟨S4096x8x1, .f32⟩
  | 14 => ⟨S4096x8x1, .f32⟩
  | 15 => ⟨S4096x8x1, .f32⟩
  | 16 => ⟨S_, .f32⟩
  | 17 => ⟨S4096x8x1, .f32⟩
  | 18 => ⟨S4096x8x1, .f32⟩
  | 19 => ⟨S4096x8x16, .f32⟩
  | 20 => ⟨S4096x8x16, .f32⟩
  | 21 => ⟨S_, .f32⟩
  | 22 => ⟨S_, .f32⟩
  | 23 => ⟨S_, .f32⟩
  | 24 => ⟨S4096x8x16, .f32⟩
  | 25 => ⟨S4096x8x16, .f32⟩
  | 26 => ⟨S_, .f32⟩
  | 27 => ⟨S4096x8x16, .f32⟩
  | 28 => ⟨S4096x8x16, .f32⟩
  | 29 => ⟨S_, .f32⟩
  | 30 => ⟨S4096x8, .f32⟩
  | 31 => ⟨S4096x8x1, .f32⟩
  | 32 => ⟨S4096x8x1, .f32⟩
  | 33 => ⟨S4096x8x1, .i1⟩
  | 34 => ⟨S4096x8x1, .f32⟩
  | 35 => ⟨S4096x8x1, .f32⟩
  | 36 => ⟨S4096x8x1, .f32⟩
  | 37 => ⟨S_, .f32⟩
  | 38 => ⟨S4096x8x1, .f32⟩
  | 39 => ⟨S4096x8x1, .f32⟩
  | 40 => ⟨S4096x8x16, .f32⟩
  | 41 => ⟨S4096x8x16, .f32⟩
  | 42 => ⟨S_, .f32⟩
  | 43 => ⟨S_, .f32⟩
  | 44 => ⟨S_, .f32⟩
  | 45 => ⟨S4096x8x16, .f32⟩
  | 46 => ⟨S4096x8x16, .f32⟩
  | 47 => ⟨S_, .f32⟩
  | 48 => ⟨S4096x8x16, .f32⟩
  | 49 => ⟨S4096x8x16, .f32⟩
  | 50 => ⟨S_, .f32⟩
  | 51 => ⟨S4096x8, .f32⟩
  | 52 => ⟨S4096x8x1, .f32⟩
  | 53 => ⟨S4096x8x1, .f32⟩
  | 54 => ⟨S4096x8x1, .i1⟩
  | 55 => ⟨S4096x8x1, .f32⟩
  | 56 => ⟨S4096x8x1, .f32⟩
  | 57 => ⟨S4096x8x1, .f32⟩
  | 58 => ⟨S_, .f32⟩
  | 59 => ⟨S4096x8x1, .f32⟩
  | 60 => ⟨S4096x8x1, .f32⟩
  | 61 => ⟨S4096x8x16, .f32⟩
  | 62 => ⟨S4096x8x16, .f32⟩
  | 63 => ⟨S_, .f32⟩
  | 64 => ⟨S_, .f32⟩
  | 65 => ⟨S_, .f32⟩
  | 66 => ⟨S4096x8x16, .f32⟩
  | 67 => ⟨S4096x8x16, .f32⟩
  | 68 => ⟨S_, .f32⟩
  | 69 => ⟨S4096x8x16, .f32⟩
  | 70 => ⟨S4096x8x16, .f32⟩
  | 71 => ⟨S_, .f32⟩
  | 72 => ⟨S4096x8, .f32⟩
  | 73 => ⟨S4096x8x1, .f32⟩
  | 74 => ⟨S4096x8x1, .f32⟩
  | 75 => ⟨S4096x8x1, .i1⟩
  | 76 => ⟨S4096x8x1, .f32⟩
  | 77 => ⟨S4096x8x1, .f32⟩
  | 78 => ⟨S4096x8x1, .f32⟩
  | 79 => ⟨S_, .f32⟩
  | 80 => ⟨S4096x8x1, .f32⟩
  | 81 => ⟨S4096x8x1, .f32⟩
  | 82 => ⟨S4096x8x16, .f32⟩
  | 83 => ⟨S4096x8x16, .f32⟩
  | 84 => ⟨S_, .f32⟩
  | 85 => ⟨S_, .f32⟩
  | 86 => ⟨S_, .f32⟩
  | 87 => ⟨S4096x8x16, .f32⟩
  | 88 => ⟨S4096x8x16, .f32⟩
  | 89 => ⟨S_, .f32⟩
  | 90 => ⟨S4096x8x16, .f32⟩
  | 91 => ⟨S4096x8x16, .f32⟩
  | 92 => ⟨S_, .f32⟩
  | 93 => ⟨S4096x8, .f32⟩
  | 94 => ⟨S4096x8x1, .f32⟩
  | 95 => ⟨S4096x8x1, .f32⟩
  | 96 => ⟨S4096x8x1, .i1⟩
  | 97 => ⟨S4096x8x1, .f32⟩
  | 98 => ⟨S4096x8x1, .f32⟩
  | 99 => ⟨S4096x8x1, .f32⟩
  | 100 => ⟨S_, .f32⟩
  | 101 => ⟨S4096x8x1, .f32⟩
  | 102 => ⟨S4096x8x1, .f32⟩
  | 103 => ⟨S4096x8x16, .f32⟩
  | 104 => ⟨S4096x8x16, .f32⟩
  | 105 => ⟨S_, .f32⟩
  | 106 => ⟨S_, .f32⟩
  | 107 => ⟨S_, .f32⟩
  | 108 => ⟨S4096x8x16, .f32⟩
  | 109 => ⟨S4096x8x16, .f32⟩
  | 110 => ⟨S_, .f32⟩
  | 111 => ⟨S4096x8x16, .f32⟩
  | 112 => ⟨S4096x8x16, .f32⟩
  | 113 => ⟨S_, .f32⟩
  | 114 => ⟨S4096x8, .f32⟩
  | 115 => ⟨S4096x8x1, .f32⟩
  | 116 => ⟨S4096x8x1, .f32⟩
  | 117 => ⟨S4096x8x1, .i1⟩
  | 118 => ⟨S4096x8x1, .f32⟩
  | 119 => ⟨S4096x8x1, .f32⟩
  | 120 => ⟨S4096x8x1, .f32⟩
  | 121 => ⟨S_, .f32⟩
  | 122 => ⟨S4096x8x1, .f32⟩
  | 123 => ⟨S4096x8x1, .f32⟩
  | 124 => ⟨S4096x8x16, .f32⟩
  | 125 => ⟨S4096x8x16, .f32⟩
  | 126 => ⟨S_, .f32⟩
  | 127 => ⟨S_, .f32⟩
  | _ => ⟨S4096x64, .f32⟩

abbrev hbmTy0_4 (i : Nat) : BufTy := match i % 128 with
  | 0 => ⟨S_, .f32⟩
  | 1 => ⟨S4096x8x16, .f32⟩
  | 2 => ⟨S4096x8x16, .f32⟩
  | 3 => ⟨S_, .f32⟩
  | 4 => ⟨S4096x8x16, .f32⟩
  | 5 => ⟨S4096x8x16, .f32⟩
  | 6 => ⟨S_, .f32⟩
  | 7 => ⟨S4096x8, .f32⟩
  | 8 => ⟨S4096x8x1, .f32⟩
  | 9 => ⟨S4096x8x1, .f32⟩
  | 10 => ⟨S4096x8x1, .i1⟩
  | 11 => ⟨S4096x8x1, .f32⟩
  | 12 => ⟨S4096x8x1, .f32⟩
  | 13 => ⟨S4096x8x1, .f32⟩
  | 14 => ⟨S_, .f32⟩
  | 15 => ⟨S4096x8x1, .f32⟩
  | 16 => ⟨S4096x8x1, .f32⟩
  | 17 => ⟨S4096x8x16, .f32⟩
  | 18 => ⟨S4096x8x16, .f32⟩
  | 19 => ⟨S_, .f32⟩
  | 20 => ⟨S_, .f32⟩
  | 21 => ⟨S_, .f32⟩
  | 22 => ⟨S4096x8x16, .f32⟩
  | 23 => ⟨S4096x8x16, .f32⟩
  | 24 => ⟨S_, .f32⟩
  | 25 => ⟨S4096x8x16, .f32⟩
  | 26 => ⟨S4096x8x16, .f32⟩
  | 27 => ⟨S_, .f32⟩
  | 28 => ⟨S4096x8, .f32⟩
  | 29 => ⟨S4096x8x1, .f32⟩
  | 30 => ⟨S4096x8x1, .f32⟩
  | 31 => ⟨S4096x8x1, .i1⟩
  | 32 => ⟨S4096x8x1, .f32⟩
  | 33 => ⟨S4096x8x1, .f32⟩
  | 34 => ⟨S4096x8x1, .f32⟩
  | 35 => ⟨S_, .f32⟩
  | 36 => ⟨S4096x8x1, .f32⟩
  | 37 => ⟨S4096x8x1, .f32⟩
  | 38 => ⟨S4096x8x16, .f32⟩
  | 39 => ⟨S4096x8x16, .f32⟩
  | 40 => ⟨S_, .f32⟩
  | 41 => ⟨S_, .f32⟩
  | 42 => ⟨S_, .f32⟩
  | 43 => ⟨S4096x8x16, .f32⟩
  | 44 => ⟨S4096x8x16, .f32⟩
  | 45 => ⟨S_, .f32⟩
  | 46 => ⟨S4096x8x16, .f32⟩
  | 47 => ⟨S4096x8x16, .f32⟩
  | 48 => ⟨S_, .f32⟩
  | 49 => ⟨S4096x8, .f32⟩
  | 50 => ⟨S4096x8x1, .f32⟩
  | 51 => ⟨S4096x8x1, .f32⟩
  | 52 => ⟨S4096x8x1, .i1⟩
  | 53 => ⟨S4096x8x1, .f32⟩
  | 54 => ⟨S4096x8x1, .f32⟩
  | 55 => ⟨S4096x8x1, .f32⟩
  | 56 => ⟨S_, .f32⟩
  | 57 => ⟨S4096x8x1, .f32⟩
  | 58 => ⟨S4096x8x1, .f32⟩
  | 59 => ⟨S4096x8x16, .f32⟩
  | 60 => ⟨S4096x8x16, .f32⟩
  | 61 => ⟨S_, .f32⟩
  | 62 => ⟨S_, .f32⟩
  | 63 => ⟨S_, .f32⟩
  | 64 => ⟨S4096x8x16, .f32⟩
  | 65 => ⟨S4096x8x16, .f32⟩
  | 66 => ⟨S_, .f32⟩
  | 67 => ⟨S4096x8x16, .f32⟩
  | 68 => ⟨S4096x8x16, .f32⟩
  | 69 => ⟨S_, .f32⟩
  | 70 => ⟨S4096x8, .f32⟩
  | 71 => ⟨S4096x8x1, .f32⟩
  | 72 => ⟨S4096x8x1, .f32⟩
  | 73 => ⟨S4096x8x1, .i1⟩
  | 74 => ⟨S4096x8x1, .f32⟩
  | 75 => ⟨S4096x8x1, .f32⟩
  | 76 => ⟨S4096x8x1, .f32⟩
  | 77 => ⟨S_, .f32⟩
  | 78 => ⟨S4096x8x1, .f32⟩
  | 79 => ⟨S4096x8x1, .f32⟩
  | 80 => ⟨S4096x8x16, .f32⟩
  | 81 => ⟨S4096x8x16, .f32⟩
  | 82 => ⟨S_, .f32⟩
  | 83 => ⟨S_, .f32⟩
  | 84 => ⟨S_, .f32⟩
  | 85 => ⟨S4096x8x16, .f32⟩
  | 86 => ⟨S4096x8x16, .f32⟩
  | 87 => ⟨S_, .f32⟩
  | 88 => ⟨S4096x8x16, .f32⟩
  | 89 => ⟨S4096x8x16, .f32⟩
  | 90 => ⟨S_, .f32⟩
  | 91 => ⟨S4096x8, .f32⟩
  | 92 => ⟨S4096x8x1, .f32⟩
  | 93 => ⟨S4096x8x1, .f32⟩
  | 94 => ⟨S4096x8x1, .i1⟩
  | 95 => ⟨S4096x8x1, .f32⟩
  | 96 => ⟨S4096x8x1, .f32⟩
  | 97 => ⟨S4096x8x1, .f32⟩
  | 98 => ⟨S_, .f32⟩
  | 99 => ⟨S4096x8x1, .f32⟩
  | 100 => ⟨S4096x8x1, .f32⟩
  | 101 => ⟨S4096x8x16, .f32⟩
  | 102 => ⟨S4096x8x16, .f32⟩
  | 103 => ⟨S_, .f32⟩
  | 104 => ⟨S_, .f32⟩
  | 105 => ⟨S_, .f32⟩
  | 106 => ⟨S4096x8x16, .f32⟩
  | 107 => ⟨S4096x8x16, .f32⟩
  | 108 => ⟨S_, .f32⟩
  | 109 => ⟨S4096x8x16, .f32⟩
  | 110 => ⟨S4096x8x16, .f32⟩
  | 111 => ⟨S4096x8x16, .i1⟩
  | 112 => ⟨S4096x8x16, .f32⟩
  | 113 => ⟨S4096x8x16, .f32⟩
  | 114 => ⟨S4096x8x16, .f32⟩
  | 115 => ⟨S_, .f32⟩
  | 116 => ⟨S1x8x16, .f32⟩
  | 117 => ⟨S1x8x16, .i1⟩
  | 118 => ⟨S_, .f32⟩
  | 119 => ⟨S4096x8x16, .f32⟩
  | 120 => ⟨S4096x8x16, .f32⟩
  | 121 => ⟨S4096x8x16, .i1⟩
  | 122 => ⟨S4096x8x16, .f32⟩
  | 123 => ⟨S4096x8x16, .f32⟩
  | 124 => ⟨S_, .f32⟩
  | 125 => ⟨S4096x64, .f32⟩
  | 126 => ⟨S128, .i32⟩
  | 127 => ⟨S4096x128, .f32⟩
  | _ => ⟨S4096x64, .f32⟩

abbrev hbmTy0_5 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S4096x64, .f32⟩
  | 9 => ⟨S1x64, .f32⟩
  | 10 => ⟨S_, .f32⟩
  | 11 => ⟨S1x64, .f32⟩
  | 12 => ⟨S1x64, .i1⟩
  | 13 => ⟨S_, .f32⟩
  | 14 => ⟨S64, .f32⟩
  | 15 => ⟨S64, .f32⟩
  | 16 => ⟨S1x64, .f32⟩
  | 17 => ⟨S4096x64, .f32⟩
  | 18 => ⟨S4096x64, .f32⟩
  | 19 => ⟨S_, .f32⟩
  | 20 => ⟨S_, .f32⟩
  | 21 => ⟨S_, .f32⟩
  | 22 => ⟨S4096x64, .f32⟩
  | 23 => ⟨S4096x64, .f32⟩
  | 24 => ⟨S_, .f32⟩
  | 25 => ⟨S4096x64, .f32⟩
  | 26 => ⟨S4096x64, .f32⟩
  | 27 => ⟨S4096x64, .i1⟩
  | 28 => ⟨S4096x64, .f32⟩
  | 29 => ⟨S_, .i32⟩
  | 30 => ⟨S_, .i32⟩
  | _ => ⟨S4096x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_c_3 : Ref sig .tc := ⟨.hbm, 11, rfl⟩
abbrev main_v5 : Ref sig .tc := ⟨.hbm, 12, rfl⟩
abbrev main_v6 : Ref sig .tc := ⟨.hbm, 13, rfl⟩
abbrev main_c_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_cst_7 : Ref sig .tc := ⟨.hbm, 24, rfl⟩
abbrev main_v14 : Ref sig .tc := ⟨.hbm, 25, rfl⟩
abbrev main_v15 : Ref sig .tc := ⟨.hbm, 26, rfl⟩
abbrev main_c_8 : Ref sig .tc := ⟨.hbm, 27, rfl⟩
abbrev main_c_9 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_v16_7 : Ref sig .tc := ⟨.hbm, 36, rfl⟩
abbrev main_v16_8 : Ref sig .tc := ⟨.hbm, 37, rfl⟩
abbrev main_v16_9 : Ref sig .tc := ⟨.hbm, 38, rfl⟩
abbrev main_while0c_c_19 : Ref sig .tc := ⟨.hbm, 39, rfl⟩
abbrev main_while0c_v17 : Ref sig .tc := ⟨.hbm, 40, rfl⟩
abbrev main_while0b_c_19 : Ref sig .tc := ⟨.hbm, 41, rfl⟩
abbrev main_while0b_v17 : Ref sig .tc := ⟨.hbm, 42, rfl⟩
abbrev main_while0b_c_20 : Ref sig .tc := ⟨.hbm, 43, rfl⟩
abbrev main_while0b_v18 : Ref sig .tc := ⟨.hbm, 44, rfl⟩
abbrev main_while0b_v19 : Ref sig .tc := ⟨.hbm, 45, rfl⟩
abbrev main_while0b_c_21 : Ref sig .tc := ⟨.hbm, 46, rfl⟩
abbrev main_while0b_v20 : Ref sig .tc := ⟨.hbm, 47, rfl⟩
abbrev main_while0b_v21 : Ref sig .tc := ⟨.hbm, 48, rfl⟩
abbrev main_while0b_v22 : Ref sig .tc := ⟨.hbm, 49, rfl⟩
abbrev main_while0b_v23 : Ref sig .tc := ⟨.hbm, 50, rfl⟩
abbrev main_while0b_v24 : Ref sig .tc := ⟨.hbm, 51, rfl⟩
abbrev main_while0b_v25 : Ref sig .tc := ⟨.hbm, 52, rfl⟩
abbrev main_while0b_cst_22 : Ref sig .tc := ⟨.hbm, 53, rfl⟩
abbrev main_while0b_v26 : Ref sig .tc := ⟨.hbm, 54, rfl⟩
abbrev main_while0b_v27 : Ref sig .tc := ⟨.hbm, 55, rfl⟩
abbrev main_while0b_cst_23 : Ref sig .tc := ⟨.hbm, 56, rfl⟩
abbrev main_while0b_v28 : Ref sig .tc := ⟨.hbm, 57, rfl⟩
abbrev main_while0b_v29 : Ref sig .tc := ⟨.hbm, 58, rfl⟩
abbrev main_while0b_call0_v0 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_cst_24 : Ref sig .tc := ⟨.hbm, 63, rfl⟩
abbrev main_while0b_cst_25 : Ref sig .tc := ⟨.hbm, 64, rfl⟩
abbrev main_while0b_call1_v0 : Ref sig .tc := ⟨.hbm, 65, rfl⟩
abbrev main_while0b_call1_v1 : Ref sig .tc := ⟨.hbm, 66, rfl⟩
abbrev main_while0b_call1_v2 : Ref sig .tc := ⟨.hbm, 67, rfl⟩
abbrev main_while0b_call1_v3 : Ref sig .tc := ⟨.hbm, 68, rfl⟩
abbrev main_while0b_call1_v4 : Ref sig .tc := ⟨.hbm, 69, rfl⟩
abbrev main_while0b_v33 : Ref sig .tc := ⟨.hbm, 70, rfl⟩
abbrev main_while0b_cst_26 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_cst_27 : Ref sig .tc := ⟨.hbm, 76, rfl⟩
abbrev main_while0b_v38 : Ref sig .tc := ⟨.hbm, 77, rfl⟩
abbrev main_while0b_cst_28 : Ref sig .tc := ⟨.hbm, 78, rfl⟩
abbrev main_while0b_v39 : Ref sig .tc := ⟨.hbm, 79, rfl⟩
abbrev main_while0b_v40 : Ref sig .tc := ⟨.hbm, 80, rfl⟩
abbrev main_while0b_cst_29 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_cst_30 : Ref sig .tc := ⟨.hbm, 85, rfl⟩
abbrev main_while0b_v44 : Ref sig .tc := ⟨.hbm, 86, rfl⟩
abbrev main_while0b_v45 : Ref sig .tc := ⟨.hbm, 87, rfl⟩
abbrev main_while0b_v46 : Ref sig .tc := ⟨.hbm, 88, rfl⟩
abbrev main_while0b_v47 : Ref sig .tc := ⟨.hbm, 89, rfl⟩
abbrev main_while0b_cst_31 : Ref sig .tc := ⟨.hbm, 90, rfl⟩
abbrev main_while0b_cst_32 : Ref sig .tc := ⟨.hbm, 91, rfl⟩
abbrev main_while0b_call2_v0 : Ref sig .tc := ⟨.hbm, 92, rfl⟩
abbrev main_while0b_call2_v1 : Ref sig .tc := ⟨.hbm, 93, rfl⟩
abbrev main_while0b_call2_v2 : Ref sig .tc := ⟨.hbm, 94, rfl⟩
abbrev main_while0b_call2_v3 : Ref sig .tc := ⟨.hbm, 95, rfl⟩
abbrev main_while0b_call2_v4 : Ref sig .tc := ⟨.hbm, 96, rfl⟩
abbrev main_while0b_v48 : Ref sig .tc := ⟨.hbm, 97, rfl⟩
abbrev main_while0b_cst_33 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_cst_34 : Ref sig .tc := ⟨.hbm, 106, rfl⟩
abbrev main_while0b_v56 : Ref sig .tc := ⟨.hbm, 107, rfl⟩
abbrev main_while0b_v57 : Ref sig .tc := ⟨.hbm, 108, rfl⟩
abbrev main_while0b_v58 : Ref sig .tc := ⟨.hbm, 109, rfl⟩
abbrev main_while0b_v59 : Ref sig .tc := ⟨.hbm, 110, rfl⟩
abbrev main_while0b_cst_35 : Ref sig .tc := ⟨.hbm, 111, rfl⟩
abbrev main_while0b_cst_36 : Ref sig .tc := ⟨.hbm, 112, rfl⟩
abbrev main_while0b_call5_v0 : Ref sig .tc := ⟨.hbm, 113, rfl⟩
abbrev main_while0b_call5_v1 : Ref sig .tc := ⟨.hbm, 114, rfl⟩
abbrev main_while0b_call5_v2 : Ref sig .tc := ⟨.hbm, 115, rfl⟩
abbrev main_while0b_call5_v3 : Ref sig .tc := ⟨.hbm, 116, rfl⟩
abbrev main_while0b_call5_v4 : Ref sig .tc := ⟨.hbm, 117, rfl⟩
abbrev main_while0b_v60 : Ref sig .tc := ⟨.hbm, 118, rfl⟩
abbrev main_while0b_cst_37 : Ref sig .tc := ⟨.hbm, 119, rfl⟩
abbrev main_while0b_v61 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_cst_38 : Ref sig .tc := ⟨.hbm, 127, rfl⟩
abbrev main_while0b_v68 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_cst_39 : Ref sig .tc := ⟨.hbm, 132, rfl⟩
abbrev main_while0b_cst_40 : Ref sig .tc := ⟨.hbm, 133, rfl⟩
abbrev main_while0b_call8_v0 : Ref sig .tc := ⟨.hbm, 134, rfl⟩
abbrev main_while0b_call8_v1 : Ref sig .tc := ⟨.hbm, 135, rfl⟩
abbrev main_while0b_call8_v2 : Ref sig .tc := ⟨.hbm, 136, rfl⟩
abbrev main_while0b_call8_v3 : Ref sig .tc := ⟨.hbm, 137, rfl⟩
abbrev main_while0b_call8_v4 : Ref sig .tc := ⟨.hbm, 138, rfl⟩
abbrev main_while0b_v72 : Ref sig .tc := ⟨.hbm, 139, rfl⟩
abbrev main_while0b_cst_41 : Ref sig .tc := ⟨.hbm, 140, rfl⟩
abbrev main_while0b_v73 : Ref sig .tc := ⟨.hbm, 141, rfl⟩
abbrev main_while0b_v74 : Ref sig .tc := ⟨.hbm, 142, rfl⟩
abbrev main_while0b_v75 : Ref sig .tc := ⟨.hbm, 143, rfl⟩
abbrev main_while0b_v76 : Ref sig .tc := ⟨.hbm, 144, rfl⟩
abbrev main_while0b_v77 : Ref sig .tc := ⟨.hbm, 145, rfl⟩
abbrev main_while0b_v78 : Ref sig .tc := ⟨.hbm, 146, rfl⟩
abbrev main_while0b_v79 : Ref sig .tc := ⟨.hbm, 147, rfl⟩
abbrev main_while0b_cst_42 : Ref sig .tc := ⟨.hbm, 148, rfl⟩
abbrev main_while0b_v80 : Ref sig .tc := ⟨.hbm, 149, rfl⟩
abbrev main_while0b_v81 : Ref sig .tc := ⟨.hbm, 150, rfl⟩
abbrev main_while0b_v82 : Ref sig .tc := ⟨.hbm, 151, rfl⟩
abbrev main_while0b_v83 : Ref sig .tc := ⟨.hbm, 152, rfl⟩
abbrev main_while0b_cst_43 : Ref sig .tc := ⟨.hbm, 153, rfl⟩
abbrev main_while0b_cst_44 : Ref sig .tc := ⟨.hbm, 154, rfl⟩
abbrev main_while0b_call11_v0 : Ref sig .tc := ⟨.hbm, 155, rfl⟩
abbrev main_while0b_call11_v1 : Ref sig .tc := ⟨.hbm, 156, rfl⟩
abbrev main_while0b_call11_v2 : Ref sig .tc := ⟨.hbm, 157, rfl⟩
abbrev main_while0b_call11_v3 : Ref sig .tc := ⟨.hbm, 158, rfl⟩
abbrev main_while0b_call11_v4 : Ref sig .tc := ⟨.hbm, 159, rfl⟩
abbrev main_while0b_v84 : Ref sig .tc := ⟨.hbm, 160, rfl⟩
abbrev main_while0b_cst_45 : Ref sig .tc := ⟨.hbm, 161, rfl⟩
abbrev main_while0b_v85 : Ref sig .tc := ⟨.hbm, 162, rfl⟩
abbrev main_while0b_v86 : Ref sig .tc := ⟨.hbm, 163, rfl⟩
abbrev main_while0b_v87 : Ref sig .tc := ⟨.hbm, 164, rfl⟩
abbrev main_while0b_v88 : Ref sig .tc := ⟨.hbm, 165, rfl⟩
abbrev main_while0b_v89 : Ref sig .tc := ⟨.hbm, 166, rfl⟩
abbrev main_while0b_v90 : Ref sig .tc := ⟨.hbm, 167, rfl⟩
abbrev main_while0b_v91 : Ref sig .tc := ⟨.hbm, 168, rfl⟩
abbrev main_while0b_cst_46 : Ref sig .tc := ⟨.hbm, 169, rfl⟩
abbrev main_while0b_v92 : Ref sig .tc := ⟨.hbm, 170, rfl⟩
abbrev main_while0b_v93 : Ref sig .tc := ⟨.hbm, 171, rfl⟩
abbrev main_while0b_v94 : Ref sig .tc := ⟨.hbm, 172, rfl⟩
abbrev main_while0b_v95 : Ref sig .tc := ⟨.hbm, 173, rfl⟩
abbrev main_while0b_cst_47 : Ref sig .tc := ⟨.hbm, 174, rfl⟩
abbrev main_while0b_cst_48 : Ref sig .tc := ⟨.hbm, 175, rfl⟩
abbrev main_while0b_call14_v0 : Ref sig .tc := ⟨.hbm, 176, rfl⟩
abbrev main_while0b_call14_v1 : Ref sig .tc := ⟨.hbm, 177, rfl⟩
abbrev main_while0b_call14_v2 : Ref sig .tc := ⟨.hbm, 178, rfl⟩
abbrev main_while0b_call14_v3 : Ref sig .tc := ⟨.hbm, 179, rfl⟩
abbrev main_while0b_call14_v4 : Ref sig .tc := ⟨.hbm, 180, rfl⟩
abbrev main_while0b_v96 : Ref sig .tc := ⟨.hbm, 181, rfl⟩
abbrev main_while0b_cst_49 : Ref sig .tc := ⟨.hbm, 182, rfl⟩
abbrev main_while0b_v97 : Ref sig .tc := ⟨.hbm, 183, rfl⟩
abbrev main_while0b_v98 : Ref sig .tc := ⟨.hbm, 184, rfl⟩
abbrev main_while0b_v99 : Ref sig .tc := ⟨.hbm, 185, rfl⟩
abbrev main_while0b_v100 : Ref sig .tc := ⟨.hbm, 186, rfl⟩
abbrev main_while0b_v101 : Ref sig .tc := ⟨.hbm, 187, rfl⟩
abbrev main_while0b_v102 : Ref sig .tc := ⟨.hbm, 188, rfl⟩
abbrev main_while0b_v103 : Ref sig .tc := ⟨.hbm, 189, rfl⟩
abbrev main_while0b_cst_50 : Ref sig .tc := ⟨.hbm, 190, rfl⟩
abbrev main_while0b_v104 : Ref sig .tc := ⟨.hbm, 191, rfl⟩
abbrev main_while0b_v105 : Ref sig .tc := ⟨.hbm, 192, rfl⟩
abbrev main_while0b_v106 : Ref sig .tc := ⟨.hbm, 193, rfl⟩
abbrev main_while0b_v107 : Ref sig .tc := ⟨.hbm, 194, rfl⟩
abbrev main_while0b_cst_51 : Ref sig .tc := ⟨.hbm, 195, rfl⟩
abbrev main_while0b_cst_52 : Ref sig .tc := ⟨.hbm, 196, rfl⟩
abbrev main_while0b_call17_v0 : Ref sig .tc := ⟨.hbm, 197, rfl⟩
abbrev main_while0b_call17_v1 : Ref sig .tc := ⟨.hbm, 198, rfl⟩
abbrev main_while0b_call17_v2 : Ref sig .tc := ⟨.hbm, 199, rfl⟩
abbrev main_while0b_call17_v3 : Ref sig .tc := ⟨.hbm, 200, rfl⟩
abbrev main_while0b_call17_v4 : Ref sig .tc := ⟨.hbm, 201, rfl⟩
abbrev main_while0b_v108 : Ref sig .tc := ⟨.hbm, 202, rfl⟩
abbrev main_while0b_cst_53 : Ref sig .tc := ⟨.hbm, 203, rfl⟩
abbrev main_while0b_v109 : Ref sig .tc := ⟨.hbm, 204, rfl⟩
abbrev main_while0b_v110 : Ref sig .tc := ⟨.hbm, 205, rfl⟩
abbrev main_while0b_v111 : Ref sig .tc := ⟨.hbm, 206, rfl⟩
abbrev main_while0b_v112 : Ref sig .tc := ⟨.hbm, 207, rfl⟩
abbrev main_while0b_v113 : Ref sig .tc := ⟨.hbm, 208, rfl⟩
abbrev main_while0b_v114 : Ref sig .tc := ⟨.hbm, 209, rfl⟩
abbrev main_while0b_v115 : Ref sig .tc := ⟨.hbm, 210, rfl⟩
abbrev main_while0b_cst_54 : Ref sig .tc := ⟨.hbm, 211, rfl⟩
abbrev main_while0b_v116 : Ref sig .tc := ⟨.hbm, 212, rfl⟩
abbrev main_while0b_v117 : Ref sig .tc := ⟨.hbm, 213, rfl⟩
abbrev main_while0b_v118 : Ref sig .tc := ⟨.hbm, 214, rfl⟩
abbrev main_while0b_v119 : Ref sig .tc := ⟨.hbm, 215, rfl⟩
abbrev main_while0b_cst_55 : Ref sig .tc := ⟨.hbm, 216, rfl⟩
abbrev main_while0b_cst_56 : Ref sig .tc := ⟨.hbm, 217, rfl⟩
abbrev main_while0b_call20_v0 : Ref sig .tc := ⟨.hbm, 218, rfl⟩
abbrev main_while0b_call20_v1 : Ref sig .tc := ⟨.hbm, 219, rfl⟩
abbrev main_while0b_call20_v2 : Ref sig .tc := ⟨.hbm, 220, rfl⟩
abbrev main_while0b_call20_v3 : Ref sig .tc := ⟨.hbm, 221, rfl⟩
abbrev main_while0b_call20_v4 : Ref sig .tc := ⟨.hbm, 222, rfl⟩
abbrev main_while0b_v120 : Ref sig .tc := ⟨.hbm, 223, rfl⟩
abbrev main_while0b_cst_57 : Ref sig .tc := ⟨.hbm, 224, rfl⟩
abbrev main_while0b_v121 : Ref sig .tc := ⟨.hbm, 225, rfl⟩
abbrev main_while0b_v122 : Ref sig .tc := ⟨.hbm, 226, rfl⟩
abbrev main_while0b_v123 : Ref sig .tc := ⟨.hbm, 227, rfl⟩
abbrev main_while0b_v124 : Ref sig .tc := ⟨.hbm, 228, rfl⟩
abbrev main_while0b_v125 : Ref sig .tc := ⟨.hbm, 229, rfl⟩
abbrev main_while0b_v126 : Ref sig .tc := ⟨.hbm, 230, rfl⟩
abbrev main_while0b_v127 : Ref sig .tc := ⟨.hbm, 231, rfl⟩
abbrev main_while0b_cst_58 : Ref sig .tc := ⟨.hbm, 232, rfl⟩
abbrev main_while0b_v128 : Ref sig .tc := ⟨.hbm, 233, rfl⟩
abbrev main_while0b_v129 : Ref sig .tc := ⟨.hbm, 234, rfl⟩
abbrev main_while0b_v130 : Ref sig .tc := ⟨.hbm, 235, rfl⟩
abbrev main_while0b_v131 : Ref sig .tc := ⟨.hbm, 236, rfl⟩
abbrev main_while0b_cst_59 : Ref sig .tc := ⟨.hbm, 237, rfl⟩
abbrev main_while0b_cst_60 : Ref sig .tc := ⟨.hbm, 238, rfl⟩
abbrev main_while0b_call23_v0 : Ref sig .tc := ⟨.hbm, 239, rfl⟩
abbrev main_while0b_call23_v1 : Ref sig .tc := ⟨.hbm, 240, rfl⟩
abbrev main_while0b_call23_v2 : Ref sig .tc := ⟨.hbm, 241, rfl⟩
abbrev main_while0b_call23_v3 : Ref sig .tc := ⟨.hbm, 242, rfl⟩
abbrev main_while0b_call23_v4 : Ref sig .tc := ⟨.hbm, 243, rfl⟩
abbrev main_while0b_v132 : Ref sig .tc := ⟨.hbm, 244, rfl⟩
abbrev main_while0b_cst_61 : Ref sig .tc := ⟨.hbm, 245, rfl⟩
abbrev main_while0b_v133 : Ref sig .tc := ⟨.hbm, 246, rfl⟩
abbrev main_while0b_v134 : Ref sig .tc := ⟨.hbm, 247, rfl⟩
abbrev main_while0b_v135 : Ref sig .tc := ⟨.hbm, 248, rfl⟩
abbrev main_while0b_v136 : Ref sig .tc := ⟨.hbm, 249, rfl⟩
abbrev main_while0b_v137 : Ref sig .tc := ⟨.hbm, 250, rfl⟩
abbrev main_while0b_v138 : Ref sig .tc := ⟨.hbm, 251, rfl⟩
abbrev main_while0b_v139 : Ref sig .tc := ⟨.hbm, 252, rfl⟩
abbrev main_while0b_cst_62 : Ref sig .tc := ⟨.hbm, 253, rfl⟩
abbrev main_while0b_v140 : Ref sig .tc := ⟨.hbm, 254, rfl⟩
abbrev main_while0b_v141 : Ref sig .tc := ⟨.hbm, 255, rfl⟩
abbrev main_while0b_v142 : Ref sig .tc := ⟨.hbm, 256, rfl⟩
abbrev main_while0b_v143 : Ref sig .tc := ⟨.hbm, 257, rfl⟩
abbrev main_while0b_cst_63 : Ref sig .tc := ⟨.hbm, 258, rfl⟩
abbrev main_while0b_cst_64 : Ref sig .tc := ⟨.hbm, 259, rfl⟩
abbrev main_while0b_call26_v0 : Ref sig .tc := ⟨.hbm, 260, rfl⟩
abbrev main_while0b_call26_v1 : Ref sig .tc := ⟨.hbm, 261, rfl⟩
abbrev main_while0b_call26_v2 : Ref sig .tc := ⟨.hbm, 262, rfl⟩
abbrev main_while0b_call26_v3 : Ref sig .tc := ⟨.hbm, 263, rfl⟩
abbrev main_while0b_call26_v4 : Ref sig .tc := ⟨.hbm, 264, rfl⟩
abbrev main_while0b_v144 : Ref sig .tc := ⟨.hbm, 265, rfl⟩
abbrev main_while0b_cst_65 : Ref sig .tc := ⟨.hbm, 266, rfl⟩
abbrev main_while0b_v145 : Ref sig .tc := ⟨.hbm, 267, rfl⟩
abbrev main_while0b_v146 : Ref sig .tc := ⟨.hbm, 268, rfl⟩
abbrev main_while0b_v147 : Ref sig .tc := ⟨.hbm, 269, rfl⟩
abbrev main_while0b_v148 : Ref sig .tc := ⟨.hbm, 270, rfl⟩
abbrev main_while0b_v149 : Ref sig .tc := ⟨.hbm, 271, rfl⟩
abbrev main_while0b_v150 : Ref sig .tc := ⟨.hbm, 272, rfl⟩
abbrev main_while0b_v151 : Ref sig .tc := ⟨.hbm, 273, rfl⟩
abbrev main_while0b_cst_66 : Ref sig .tc := ⟨.hbm, 274, rfl⟩
abbrev main_while0b_v152 : Ref sig .tc := ⟨.hbm, 275, rfl⟩
abbrev main_while0b_v153 : Ref sig .tc := ⟨.hbm, 276, rfl⟩
abbrev main_while0b_v154 : Ref sig .tc := ⟨.hbm, 277, rfl⟩
abbrev main_while0b_v155 : Ref sig .tc := ⟨.hbm, 278, rfl⟩
abbrev main_while0b_cst_67 : Ref sig .tc := ⟨.hbm, 279, rfl⟩
abbrev main_while0b_cst_68 : Ref sig .tc := ⟨.hbm, 280, rfl⟩
abbrev main_while0b_call29_v0 : Ref sig .tc := ⟨.hbm, 281, rfl⟩
abbrev main_while0b_call29_v1 : Ref sig .tc := ⟨.hbm, 282, rfl⟩
abbrev main_while0b_call29_v2 : Ref sig .tc := ⟨.hbm, 283, rfl⟩
abbrev main_while0b_call29_v3 : Ref sig .tc := ⟨.hbm, 284, rfl⟩
abbrev main_while0b_call29_v4 : Ref sig .tc := ⟨.hbm, 285, rfl⟩
abbrev main_while0b_v156 : Ref sig .tc := ⟨.hbm, 286, rfl⟩
abbrev main_while0b_cst_69 : Ref sig .tc := ⟨.hbm, 287, rfl⟩
abbrev main_while0b_v157 : Ref sig .tc := ⟨.hbm, 288, rfl⟩
abbrev main_while0b_v158 : Ref sig .tc := ⟨.hbm, 289, rfl⟩
abbrev main_while0b_v159 : Ref sig .tc := ⟨.hbm, 290, rfl⟩
abbrev main_while0b_v160 : Ref sig .tc := ⟨.hbm, 291, rfl⟩
abbrev main_while0b_v161 : Ref sig .tc := ⟨.hbm, 292, rfl⟩
abbrev main_while0b_v162 : Ref sig .tc := ⟨.hbm, 293, rfl⟩
abbrev main_while0b_v163 : Ref sig .tc := ⟨.hbm, 294, rfl⟩
abbrev main_while0b_cst_70 : Ref sig .tc := ⟨.hbm, 295, rfl⟩
abbrev main_while0b_v164 : Ref sig .tc := ⟨.hbm, 296, rfl⟩
abbrev main_while0b_v165 : Ref sig .tc := ⟨.hbm, 297, rfl⟩
abbrev main_while0b_v166 : Ref sig .tc := ⟨.hbm, 298, rfl⟩
abbrev main_while0b_v167 : Ref sig .tc := ⟨.hbm, 299, rfl⟩
abbrev main_while0b_cst_71 : Ref sig .tc := ⟨.hbm, 300, rfl⟩
abbrev main_while0b_cst_72 : Ref sig .tc := ⟨.hbm, 301, rfl⟩
abbrev main_while0b_call32_v0 : Ref sig .tc := ⟨.hbm, 302, rfl⟩
abbrev main_while0b_call32_v1 : Ref sig .tc := ⟨.hbm, 303, rfl⟩
abbrev main_while0b_call32_v2 : Ref sig .tc := ⟨.hbm, 304, rfl⟩
abbrev main_while0b_call32_v3 : Ref sig .tc := ⟨.hbm, 305, rfl⟩
abbrev main_while0b_call32_v4 : Ref sig .tc := ⟨.hbm, 306, rfl⟩
abbrev main_while0b_v168 : Ref sig .tc := ⟨.hbm, 307, rfl⟩
abbrev main_while0b_cst_73 : Ref sig .tc := ⟨.hbm, 308, rfl⟩
abbrev main_while0b_v169 : Ref sig .tc := ⟨.hbm, 309, rfl⟩
abbrev main_while0b_v170 : Ref sig .tc := ⟨.hbm, 310, rfl⟩
abbrev main_while0b_v171 : Ref sig .tc := ⟨.hbm, 311, rfl⟩
abbrev main_while0b_v172 : Ref sig .tc := ⟨.hbm, 312, rfl⟩
abbrev main_while0b_v173 : Ref sig .tc := ⟨.hbm, 313, rfl⟩
abbrev main_while0b_v174 : Ref sig .tc := ⟨.hbm, 314, rfl⟩
abbrev main_while0b_v175 : Ref sig .tc := ⟨.hbm, 315, rfl⟩
abbrev main_while0b_cst_74 : Ref sig .tc := ⟨.hbm, 316, rfl⟩
abbrev main_while0b_v176 : Ref sig .tc := ⟨.hbm, 317, rfl⟩
abbrev main_while0b_v177 : Ref sig .tc := ⟨.hbm, 318, rfl⟩
abbrev main_while0b_v178 : Ref sig .tc := ⟨.hbm, 319, rfl⟩
abbrev main_while0b_v179 : Ref sig .tc := ⟨.hbm, 320, rfl⟩
abbrev main_while0b_cst_75 : Ref sig .tc := ⟨.hbm, 321, rfl⟩
abbrev main_while0b_cst_76 : Ref sig .tc := ⟨.hbm, 322, rfl⟩
abbrev main_while0b_call35_v0 : Ref sig .tc := ⟨.hbm, 323, rfl⟩
abbrev main_while0b_call35_v1 : Ref sig .tc := ⟨.hbm, 324, rfl⟩
abbrev main_while0b_call35_v2 : Ref sig .tc := ⟨.hbm, 325, rfl⟩
abbrev main_while0b_call35_v3 : Ref sig .tc := ⟨.hbm, 326, rfl⟩
abbrev main_while0b_call35_v4 : Ref sig .tc := ⟨.hbm, 327, rfl⟩
abbrev main_while0b_v180 : Ref sig .tc := ⟨.hbm, 328, rfl⟩
abbrev main_while0b_cst_77 : Ref sig .tc := ⟨.hbm, 329, rfl⟩
abbrev main_while0b_v181 : Ref sig .tc := ⟨.hbm, 330, rfl⟩
abbrev main_while0b_v182 : Ref sig .tc := ⟨.hbm, 331, rfl⟩
abbrev main_while0b_v183 : Ref sig .tc := ⟨.hbm, 332, rfl⟩
abbrev main_while0b_v184 : Ref sig .tc := ⟨.hbm, 333, rfl⟩
abbrev main_while0b_v185 : Ref sig .tc := ⟨.hbm, 334, rfl⟩
abbrev main_while0b_v186 : Ref sig .tc := ⟨.hbm, 335, rfl⟩
abbrev main_while0b_v187 : Ref sig .tc := ⟨.hbm, 336, rfl⟩
abbrev main_while0b_cst_78 : Ref sig .tc := ⟨.hbm, 337, rfl⟩
abbrev main_while0b_v188 : Ref sig .tc := ⟨.hbm, 338, rfl⟩
abbrev main_while0b_v189 : Ref sig .tc := ⟨.hbm, 339, rfl⟩
abbrev main_while0b_v190 : Ref sig .tc := ⟨.hbm, 340, rfl⟩
abbrev main_while0b_v191 : Ref sig .tc := ⟨.hbm, 341, rfl⟩
abbrev main_while0b_cst_79 : Ref sig .tc := ⟨.hbm, 342, rfl⟩
abbrev main_while0b_cst_80 : Ref sig .tc := ⟨.hbm, 343, rfl⟩
abbrev main_while0b_call38_v0 : Ref sig .tc := ⟨.hbm, 344, rfl⟩
abbrev main_while0b_call38_v1 : Ref sig .tc := ⟨.hbm, 345, rfl⟩
abbrev main_while0b_call38_v2 : Ref sig .tc := ⟨.hbm, 346, rfl⟩
abbrev main_while0b_call38_v3 : Ref sig .tc := ⟨.hbm, 347, rfl⟩
abbrev main_while0b_call38_v4 : Ref sig .tc := ⟨.hbm, 348, rfl⟩
abbrev main_while0b_v192 : Ref sig .tc := ⟨.hbm, 349, rfl⟩
abbrev main_while0b_cst_81 : Ref sig .tc := ⟨.hbm, 350, rfl⟩
abbrev main_while0b_v193 : Ref sig .tc := ⟨.hbm, 351, rfl⟩
abbrev main_while0b_v194 : Ref sig .tc := ⟨.hbm, 352, rfl⟩
abbrev main_while0b_v195 : Ref sig .tc := ⟨.hbm, 353, rfl⟩
abbrev main_while0b_v196 : Ref sig .tc := ⟨.hbm, 354, rfl⟩
abbrev main_while0b_v197 : Ref sig .tc := ⟨.hbm, 355, rfl⟩
abbrev main_while0b_v198 : Ref sig .tc := ⟨.hbm, 356, rfl⟩
abbrev main_while0b_v199 : Ref sig .tc := ⟨.hbm, 357, rfl⟩
abbrev main_while0b_cst_82 : Ref sig .tc := ⟨.hbm, 358, rfl⟩
abbrev main_while0b_v200 : Ref sig .tc := ⟨.hbm, 359, rfl⟩
abbrev main_while0b_v201 : Ref sig .tc := ⟨.hbm, 360, rfl⟩
abbrev main_while0b_v202 : Ref sig .tc := ⟨.hbm, 361, rfl⟩
abbrev main_while0b_v203 : Ref sig .tc := ⟨.hbm, 362, rfl⟩
abbrev main_while0b_cst_83 : Ref sig .tc := ⟨.hbm, 363, rfl⟩
abbrev main_while0b_cst_84 : Ref sig .tc := ⟨.hbm, 364, rfl⟩
abbrev main_while0b_call41_v0 : Ref sig .tc := ⟨.hbm, 365, rfl⟩
abbrev main_while0b_call41_v1 : Ref sig .tc := ⟨.hbm, 366, rfl⟩
abbrev main_while0b_call41_v2 : Ref sig .tc := ⟨.hbm, 367, rfl⟩
abbrev main_while0b_call41_v3 : Ref sig .tc := ⟨.hbm, 368, rfl⟩
abbrev main_while0b_call41_v4 : Ref sig .tc := ⟨.hbm, 369, rfl⟩
abbrev main_while0b_v204 : Ref sig .tc := ⟨.hbm, 370, rfl⟩
abbrev main_while0b_cst_85 : Ref sig .tc := ⟨.hbm, 371, rfl⟩
abbrev main_while0b_v205 : Ref sig .tc := ⟨.hbm, 372, rfl⟩
abbrev main_while0b_v206 : Ref sig .tc := ⟨.hbm, 373, rfl⟩
abbrev main_while0b_v207 : Ref sig .tc := ⟨.hbm, 374, rfl⟩
abbrev main_while0b_v208 : Ref sig .tc := ⟨.hbm, 375, rfl⟩
abbrev main_while0b_v209 : Ref sig .tc := ⟨.hbm, 376, rfl⟩
abbrev main_while0b_v210 : Ref sig .tc := ⟨.hbm, 377, rfl⟩
abbrev main_while0b_v211 : Ref sig .tc := ⟨.hbm, 378, rfl⟩
abbrev main_while0b_cst_86 : Ref sig .tc := ⟨.hbm, 379, rfl⟩
abbrev main_while0b_v212 : Ref sig .tc := ⟨.hbm, 380, rfl⟩
abbrev main_while0b_v213 : Ref sig .tc := ⟨.hbm, 381, rfl⟩
abbrev main_while0b_v214 : Ref sig .tc := ⟨.hbm, 382, rfl⟩
abbrev main_while0b_v215 : Ref sig .tc := ⟨.hbm, 383, rfl⟩
abbrev main_while0b_cst_87 : Ref sig .tc := ⟨.hbm, 384, rfl⟩
abbrev main_while0b_cst_88 : Ref sig .tc := ⟨.hbm, 385, rfl⟩
abbrev main_while0b_call44_v0 : Ref sig .tc := ⟨.hbm, 386, rfl⟩
abbrev main_while0b_call44_v1 : Ref sig .tc := ⟨.hbm, 387, rfl⟩
abbrev main_while0b_call44_v2 : Ref sig .tc := ⟨.hbm, 388, rfl⟩
abbrev main_while0b_call44_v3 : Ref sig .tc := ⟨.hbm, 389, rfl⟩
abbrev main_while0b_call44_v4 : Ref sig .tc := ⟨.hbm, 390, rfl⟩
abbrev main_while0b_v216 : Ref sig .tc := ⟨.hbm, 391, rfl⟩
abbrev main_while0b_cst_89 : Ref sig .tc := ⟨.hbm, 392, rfl⟩
abbrev main_while0b_v217 : Ref sig .tc := ⟨.hbm, 393, rfl⟩
abbrev main_while0b_v218 : Ref sig .tc := ⟨.hbm, 394, rfl⟩
abbrev main_while0b_v219 : Ref sig .tc := ⟨.hbm, 395, rfl⟩
abbrev main_while0b_v220 : Ref sig .tc := ⟨.hbm, 396, rfl⟩
abbrev main_while0b_v221 : Ref sig .tc := ⟨.hbm, 397, rfl⟩
abbrev main_while0b_v222 : Ref sig .tc := ⟨.hbm, 398, rfl⟩
abbrev main_while0b_v223 : Ref sig .tc := ⟨.hbm, 399, rfl⟩
abbrev main_while0b_cst_90 : Ref sig .tc := ⟨.hbm, 400, rfl⟩
abbrev main_while0b_v224 : Ref sig .tc := ⟨.hbm, 401, rfl⟩
abbrev main_while0b_v225 : Ref sig .tc := ⟨.hbm, 402, rfl⟩
abbrev main_while0b_v226 : Ref sig .tc := ⟨.hbm, 403, rfl⟩
abbrev main_while0b_v227 : Ref sig .tc := ⟨.hbm, 404, rfl⟩
abbrev main_while0b_cst_91 : Ref sig .tc := ⟨.hbm, 405, rfl⟩
abbrev main_while0b_cst_92 : Ref sig .tc := ⟨.hbm, 406, rfl⟩
abbrev main_while0b_call47_v0 : Ref sig .tc := ⟨.hbm, 407, rfl⟩
abbrev main_while0b_call47_v1 : Ref sig .tc := ⟨.hbm, 408, rfl⟩
abbrev main_while0b_call47_v2 : Ref sig .tc := ⟨.hbm, 409, rfl⟩
abbrev main_while0b_call47_v3 : Ref sig .tc := ⟨.hbm, 410, rfl⟩
abbrev main_while0b_call47_v4 : Ref sig .tc := ⟨.hbm, 411, rfl⟩
abbrev main_while0b_v228 : Ref sig .tc := ⟨.hbm, 412, rfl⟩
abbrev main_while0b_cst_93 : Ref sig .tc := ⟨.hbm, 413, rfl⟩
abbrev main_while0b_v229 : Ref sig .tc := ⟨.hbm, 414, rfl⟩
abbrev main_while0b_v230 : Ref sig .tc := ⟨.hbm, 415, rfl⟩
abbrev main_while0b_v231 : Ref sig .tc := ⟨.hbm, 416, rfl⟩
abbrev main_while0b_v232 : Ref sig .tc := ⟨.hbm, 417, rfl⟩
abbrev main_while0b_v233 : Ref sig .tc := ⟨.hbm, 418, rfl⟩
abbrev main_while0b_v234 : Ref sig .tc := ⟨.hbm, 419, rfl⟩
abbrev main_while0b_v235 : Ref sig .tc := ⟨.hbm, 420, rfl⟩
abbrev main_while0b_cst_94 : Ref sig .tc := ⟨.hbm, 421, rfl⟩
abbrev main_while0b_v236 : Ref sig .tc := ⟨.hbm, 422, rfl⟩
abbrev main_while0b_v237 : Ref sig .tc := ⟨.hbm, 423, rfl⟩
abbrev main_while0b_v238 : Ref sig .tc := ⟨.hbm, 424, rfl⟩
abbrev main_while0b_v239 : Ref sig .tc := ⟨.hbm, 425, rfl⟩
abbrev main_while0b_cst_95 : Ref sig .tc := ⟨.hbm, 426, rfl⟩
abbrev main_while0b_cst_96 : Ref sig .tc := ⟨.hbm, 427, rfl⟩
abbrev main_while0b_call50_v0 : Ref sig .tc := ⟨.hbm, 428, rfl⟩
abbrev main_while0b_call50_v1 : Ref sig .tc := ⟨.hbm, 429, rfl⟩
abbrev main_while0b_call50_v2 : Ref sig .tc := ⟨.hbm, 430, rfl⟩
abbrev main_while0b_call50_v3 : Ref sig .tc := ⟨.hbm, 431, rfl⟩
abbrev main_while0b_call50_v4 : Ref sig .tc := ⟨.hbm, 432, rfl⟩
abbrev main_while0b_v240 : Ref sig .tc := ⟨.hbm, 433, rfl⟩
abbrev main_while0b_cst_97 : Ref sig .tc := ⟨.hbm, 434, rfl⟩
abbrev main_while0b_v241 : Ref sig .tc := ⟨.hbm, 435, rfl⟩
abbrev main_while0b_v242 : Ref sig .tc := ⟨.hbm, 436, rfl⟩
abbrev main_while0b_v243 : Ref sig .tc := ⟨.hbm, 437, rfl⟩
abbrev main_while0b_v244 : Ref sig .tc := ⟨.hbm, 438, rfl⟩
abbrev main_while0b_v245 : Ref sig .tc := ⟨.hbm, 439, rfl⟩
abbrev main_while0b_v246 : Ref sig .tc := ⟨.hbm, 440, rfl⟩
abbrev main_while0b_v247 : Ref sig .tc := ⟨.hbm, 441, rfl⟩
abbrev main_while0b_cst_98 : Ref sig .tc := ⟨.hbm, 442, rfl⟩
abbrev main_while0b_v248 : Ref sig .tc := ⟨.hbm, 443, rfl⟩
abbrev main_while0b_v249 : Ref sig .tc := ⟨.hbm, 444, rfl⟩
abbrev main_while0b_v250 : Ref sig .tc := ⟨.hbm, 445, rfl⟩
abbrev main_while0b_v251 : Ref sig .tc := ⟨.hbm, 446, rfl⟩
abbrev main_while0b_cst_99 : Ref sig .tc := ⟨.hbm, 447, rfl⟩
abbrev main_while0b_cst_100 : Ref sig .tc := ⟨.hbm, 448, rfl⟩
abbrev main_while0b_call53_v0 : Ref sig .tc := ⟨.hbm, 449, rfl⟩
abbrev main_while0b_call53_v1 : Ref sig .tc := ⟨.hbm, 450, rfl⟩
abbrev main_while0b_call53_v2 : Ref sig .tc := ⟨.hbm, 451, rfl⟩
abbrev main_while0b_call53_v3 : Ref sig .tc := ⟨.hbm, 452, rfl⟩
abbrev main_while0b_call53_v4 : Ref sig .tc := ⟨.hbm, 453, rfl⟩
abbrev main_while0b_v252 : Ref sig .tc := ⟨.hbm, 454, rfl⟩
abbrev main_while0b_cst_101 : Ref sig .tc := ⟨.hbm, 455, rfl⟩
abbrev main_while0b_v253 : Ref sig .tc := ⟨.hbm, 456, rfl⟩
abbrev main_while0b_v254 : Ref sig .tc := ⟨.hbm, 457, rfl⟩
abbrev main_while0b_v255 : Ref sig .tc := ⟨.hbm, 458, rfl⟩
abbrev main_while0b_v256 : Ref sig .tc := ⟨.hbm, 459, rfl⟩
abbrev main_while0b_v257 : Ref sig .tc := ⟨.hbm, 460, rfl⟩
abbrev main_while0b_v258 : Ref sig .tc := ⟨.hbm, 461, rfl⟩
abbrev main_while0b_v259 : Ref sig .tc := ⟨.hbm, 462, rfl⟩
abbrev main_while0b_cst_102 : Ref sig .tc := ⟨.hbm, 463, rfl⟩
abbrev main_while0b_v260 : Ref sig .tc := ⟨.hbm, 464, rfl⟩
abbrev main_while0b_v261 : Ref sig .tc := ⟨.hbm, 465, rfl⟩
abbrev main_while0b_v262 : Ref sig .tc := ⟨.hbm, 466, rfl⟩
abbrev main_while0b_v263 : Ref sig .tc := ⟨.hbm, 467, rfl⟩
abbrev main_while0b_cst_103 : Ref sig .tc := ⟨.hbm, 468, rfl⟩
abbrev main_while0b_cst_104 : Ref sig .tc := ⟨.hbm, 469, rfl⟩
abbrev main_while0b_call56_v0 : Ref sig .tc := ⟨.hbm, 470, rfl⟩
abbrev main_while0b_call56_v1 : Ref sig .tc := ⟨.hbm, 471, rfl⟩
abbrev main_while0b_call56_v2 : Ref sig .tc := ⟨.hbm, 472, rfl⟩
abbrev main_while0b_call56_v3 : Ref sig .tc := ⟨.hbm, 473, rfl⟩
abbrev main_while0b_call56_v4 : Ref sig .tc := ⟨.hbm, 474, rfl⟩
abbrev main_while0b_v264 : Ref sig .tc := ⟨.hbm, 475, rfl⟩
abbrev main_while0b_cst_105 : Ref sig .tc := ⟨.hbm, 476, rfl⟩
abbrev main_while0b_v265 : Ref sig .tc := ⟨.hbm, 477, rfl⟩
abbrev main_while0b_v266 : Ref sig .tc := ⟨.hbm, 478, rfl⟩
abbrev main_while0b_v267 : Ref sig .tc := ⟨.hbm, 479, rfl⟩
abbrev main_while0b_v268 : Ref sig .tc := ⟨.hbm, 480, rfl⟩
abbrev main_while0b_v269 : Ref sig .tc := ⟨.hbm, 481, rfl⟩
abbrev main_while0b_v270 : Ref sig .tc := ⟨.hbm, 482, rfl⟩
abbrev main_while0b_v271 : Ref sig .tc := ⟨.hbm, 483, rfl⟩
abbrev main_while0b_cst_106 : Ref sig .tc := ⟨.hbm, 484, rfl⟩
abbrev main_while0b_v272 : Ref sig .tc := ⟨.hbm, 485, rfl⟩
abbrev main_while0b_v273 : Ref sig .tc := ⟨.hbm, 486, rfl⟩
abbrev main_while0b_v274 : Ref sig .tc := ⟨.hbm, 487, rfl⟩
abbrev main_while0b_v275 : Ref sig .tc := ⟨.hbm, 488, rfl⟩
abbrev main_while0b_cst_107 : Ref sig .tc := ⟨.hbm, 489, rfl⟩
abbrev main_while0b_cst_108 : Ref sig .tc := ⟨.hbm, 490, rfl⟩
abbrev main_while0b_call59_v0 : Ref sig .tc := ⟨.hbm, 491, rfl⟩
abbrev main_while0b_call59_v1 : Ref sig .tc := ⟨.hbm, 492, rfl⟩
abbrev main_while0b_call59_v2 : Ref sig .tc := ⟨.hbm, 493, rfl⟩
abbrev main_while0b_call59_v3 : Ref sig .tc := ⟨.hbm, 494, rfl⟩
abbrev main_while0b_call59_v4 : Ref sig .tc := ⟨.hbm, 495, rfl⟩
abbrev main_while0b_v276 : Ref sig .tc := ⟨.hbm, 496, rfl⟩
abbrev main_while0b_cst_109 : Ref sig .tc := ⟨.hbm, 497, rfl⟩
abbrev main_while0b_v277 : Ref sig .tc := ⟨.hbm, 498, rfl⟩
abbrev main_while0b_v278 : Ref sig .tc := ⟨.hbm, 499, rfl⟩
abbrev main_while0b_v279 : Ref sig .tc := ⟨.hbm, 500, rfl⟩
abbrev main_while0b_v280 : Ref sig .tc := ⟨.hbm, 501, rfl⟩
abbrev main_while0b_v281 : Ref sig .tc := ⟨.hbm, 502, rfl⟩
abbrev main_while0b_v282 : Ref sig .tc := ⟨.hbm, 503, rfl⟩
abbrev main_while0b_v283 : Ref sig .tc := ⟨.hbm, 504, rfl⟩
abbrev main_while0b_cst_110 : Ref sig .tc := ⟨.hbm, 505, rfl⟩
abbrev main_while0b_v284 : Ref sig .tc := ⟨.hbm, 506, rfl⟩
abbrev main_while0b_v285 : Ref sig .tc := ⟨.hbm, 507, rfl⟩
abbrev main_while0b_v286 : Ref sig .tc := ⟨.hbm, 508, rfl⟩
abbrev main_while0b_v287 : Ref sig .tc := ⟨.hbm, 509, rfl⟩
abbrev main_while0b_cst_111 : Ref sig .tc := ⟨.hbm, 510, rfl⟩
abbrev main_while0b_cst_112 : Ref sig .tc := ⟨.hbm, 511, rfl⟩
abbrev main_while0b_call62_v0 : Ref sig .tc := ⟨.hbm, 512, rfl⟩
abbrev main_while0b_call62_v1 : Ref sig .tc := ⟨.hbm, 513, rfl⟩
abbrev main_while0b_call62_v2 : Ref sig .tc := ⟨.hbm, 514, rfl⟩
abbrev main_while0b_call62_v3 : Ref sig .tc := ⟨.hbm, 515, rfl⟩
abbrev main_while0b_call62_v4 : Ref sig .tc := ⟨.hbm, 516, rfl⟩
abbrev main_while0b_v288 : Ref sig .tc := ⟨.hbm, 517, rfl⟩
abbrev main_while0b_cst_113 : Ref sig .tc := ⟨.hbm, 518, rfl⟩
abbrev main_while0b_v289 : Ref sig .tc := ⟨.hbm, 519, rfl⟩
abbrev main_while0b_v290 : Ref sig .tc := ⟨.hbm, 520, rfl⟩
abbrev main_while0b_v291 : Ref sig .tc := ⟨.hbm, 521, rfl⟩
abbrev main_while0b_v292 : Ref sig .tc := ⟨.hbm, 522, rfl⟩
abbrev main_while0b_v293 : Ref sig .tc := ⟨.hbm, 523, rfl⟩
abbrev main_while0b_v294 : Ref sig .tc := ⟨.hbm, 524, rfl⟩
abbrev main_while0b_v295 : Ref sig .tc := ⟨.hbm, 525, rfl⟩
abbrev main_while0b_cst_114 : Ref sig .tc := ⟨.hbm, 526, rfl⟩
abbrev main_while0b_v296 : Ref sig .tc := ⟨.hbm, 527, rfl⟩
abbrev main_while0b_v297 : Ref sig .tc := ⟨.hbm, 528, rfl⟩
abbrev main_while0b_v298 : Ref sig .tc := ⟨.hbm, 529, rfl⟩
abbrev main_while0b_v299 : Ref sig .tc := ⟨.hbm, 530, rfl⟩
abbrev main_while0b_cst_115 : Ref sig .tc := ⟨.hbm, 531, rfl⟩
abbrev main_while0b_cst_116 : Ref sig .tc := ⟨.hbm, 532, rfl⟩
abbrev main_while0b_call65_v0 : Ref sig .tc := ⟨.hbm, 533, rfl⟩
abbrev main_while0b_call65_v1 : Ref sig .tc := ⟨.hbm, 534, rfl⟩
abbrev main_while0b_call65_v2 : Ref sig .tc := ⟨.hbm, 535, rfl⟩
abbrev main_while0b_call65_v3 : Ref sig .tc := ⟨.hbm, 536, rfl⟩
abbrev main_while0b_call65_v4 : Ref sig .tc := ⟨.hbm, 537, rfl⟩
abbrev main_while0b_v300 : Ref sig .tc := ⟨.hbm, 538, rfl⟩
abbrev main_while0b_cst_117 : Ref sig .tc := ⟨.hbm, 539, rfl⟩
abbrev main_while0b_v301 : Ref sig .tc := ⟨.hbm, 540, rfl⟩
abbrev main_while0b_v302 : Ref sig .tc := ⟨.hbm, 541, rfl⟩
abbrev main_while0b_v303 : Ref sig .tc := ⟨.hbm, 542, rfl⟩
abbrev main_while0b_v304 : Ref sig .tc := ⟨.hbm, 543, rfl⟩
abbrev main_while0b_v305 : Ref sig .tc := ⟨.hbm, 544, rfl⟩
abbrev main_while0b_v306 : Ref sig .tc := ⟨.hbm, 545, rfl⟩
abbrev main_while0b_v307 : Ref sig .tc := ⟨.hbm, 546, rfl⟩
abbrev main_while0b_cst_118 : Ref sig .tc := ⟨.hbm, 547, rfl⟩
abbrev main_while0b_v308 : Ref sig .tc := ⟨.hbm, 548, rfl⟩
abbrev main_while0b_v309 : Ref sig .tc := ⟨.hbm, 549, rfl⟩
abbrev main_while0b_v310 : Ref sig .tc := ⟨.hbm, 550, rfl⟩
abbrev main_while0b_v311 : Ref sig .tc := ⟨.hbm, 551, rfl⟩
abbrev main_while0b_cst_119 : Ref sig .tc := ⟨.hbm, 552, rfl⟩
abbrev main_while0b_cst_120 : Ref sig .tc := ⟨.hbm, 553, rfl⟩
abbrev main_while0b_call68_v0 : Ref sig .tc := ⟨.hbm, 554, rfl⟩
abbrev main_while0b_call68_v1 : Ref sig .tc := ⟨.hbm, 555, rfl⟩
abbrev main_while0b_call68_v2 : Ref sig .tc := ⟨.hbm, 556, rfl⟩
abbrev main_while0b_call68_v3 : Ref sig .tc := ⟨.hbm, 557, rfl⟩
abbrev main_while0b_call68_v4 : Ref sig .tc := ⟨.hbm, 558, rfl⟩
abbrev main_while0b_v312 : Ref sig .tc := ⟨.hbm, 559, rfl⟩
abbrev main_while0b_cst_121 : Ref sig .tc := ⟨.hbm, 560, rfl⟩
abbrev main_while0b_v313 : Ref sig .tc := ⟨.hbm, 561, rfl⟩
abbrev main_while0b_v314 : Ref sig .tc := ⟨.hbm, 562, rfl⟩
abbrev main_while0b_v315 : Ref sig .tc := ⟨.hbm, 563, rfl⟩
abbrev main_while0b_v316 : Ref sig .tc := ⟨.hbm, 564, rfl⟩
abbrev main_while0b_v317 : Ref sig .tc := ⟨.hbm, 565, rfl⟩
abbrev main_while0b_v318 : Ref sig .tc := ⟨.hbm, 566, rfl⟩
abbrev main_while0b_v319 : Ref sig .tc := ⟨.hbm, 567, rfl⟩
abbrev main_while0b_cst_122 : Ref sig .tc := ⟨.hbm, 568, rfl⟩
abbrev main_while0b_v320 : Ref sig .tc := ⟨.hbm, 569, rfl⟩
abbrev main_while0b_v321 : Ref sig .tc := ⟨.hbm, 570, rfl⟩
abbrev main_while0b_v322 : Ref sig .tc := ⟨.hbm, 571, rfl⟩
abbrev main_while0b_v323 : Ref sig .tc := ⟨.hbm, 572, rfl⟩
abbrev main_while0b_cst_123 : Ref sig .tc := ⟨.hbm, 573, rfl⟩
abbrev main_while0b_cst_124 : Ref sig .tc := ⟨.hbm, 574, rfl⟩
abbrev main_while0b_call71_v0 : Ref sig .tc := ⟨.hbm, 575, rfl⟩
abbrev main_while0b_call71_v1 : Ref sig .tc := ⟨.hbm, 576, rfl⟩
abbrev main_while0b_call71_v2 : Ref sig .tc := ⟨.hbm, 577, rfl⟩
abbrev main_while0b_call71_v3 : Ref sig .tc := ⟨.hbm, 578, rfl⟩
abbrev main_while0b_call71_v4 : Ref sig .tc := ⟨.hbm, 579, rfl⟩
abbrev main_while0b_v324 : Ref sig .tc := ⟨.hbm, 580, rfl⟩
abbrev main_while0b_cst_125 : Ref sig .tc := ⟨.hbm, 581, rfl⟩
abbrev main_while0b_v325 : Ref sig .tc := ⟨.hbm, 582, rfl⟩
abbrev main_while0b_v326 : Ref sig .tc := ⟨.hbm, 583, rfl⟩
abbrev main_while0b_v327 : Ref sig .tc := ⟨.hbm, 584, rfl⟩
abbrev main_while0b_v328 : Ref sig .tc := ⟨.hbm, 585, rfl⟩
abbrev main_while0b_v329 : Ref sig .tc := ⟨.hbm, 586, rfl⟩
abbrev main_while0b_v330 : Ref sig .tc := ⟨.hbm, 587, rfl⟩
abbrev main_while0b_v331 : Ref sig .tc := ⟨.hbm, 588, rfl⟩
abbrev main_while0b_cst_126 : Ref sig .tc := ⟨.hbm, 589, rfl⟩
abbrev main_while0b_v332 : Ref sig .tc := ⟨.hbm, 590, rfl⟩
abbrev main_while0b_v333 : Ref sig .tc := ⟨.hbm, 591, rfl⟩
abbrev main_while0b_v334 : Ref sig .tc := ⟨.hbm, 592, rfl⟩
abbrev main_while0b_v335 : Ref sig .tc := ⟨.hbm, 593, rfl⟩
abbrev main_while0b_cst_127 : Ref sig .tc := ⟨.hbm, 594, rfl⟩
abbrev main_while0b_cst_128 : Ref sig .tc := ⟨.hbm, 595, rfl⟩
abbrev main_while0b_call74_v0 : Ref sig .tc := ⟨.hbm, 596, rfl⟩
abbrev main_while0b_call74_v1 : Ref sig .tc := ⟨.hbm, 597, rfl⟩
abbrev main_while0b_call74_v2 : Ref sig .tc := ⟨.hbm, 598, rfl⟩
abbrev main_while0b_call74_v3 : Ref sig .tc := ⟨.hbm, 599, rfl⟩
abbrev main_while0b_call74_v4 : Ref sig .tc := ⟨.hbm, 600, rfl⟩
abbrev main_while0b_v336 : Ref sig .tc := ⟨.hbm, 601, rfl⟩
abbrev main_while0b_cst_129 : Ref sig .tc := ⟨.hbm, 602, rfl⟩
abbrev main_while0b_v337 : Ref sig .tc := ⟨.hbm, 603, rfl⟩
abbrev main_while0b_v338 : Ref sig .tc := ⟨.hbm, 604, rfl⟩
abbrev main_while0b_v339 : Ref sig .tc := ⟨.hbm, 605, rfl⟩
abbrev main_while0b_v340 : Ref sig .tc := ⟨.hbm, 606, rfl⟩
abbrev main_while0b_v341 : Ref sig .tc := ⟨.hbm, 607, rfl⟩
abbrev main_while0b_v342 : Ref sig .tc := ⟨.hbm, 608, rfl⟩
abbrev main_while0b_v343 : Ref sig .tc := ⟨.hbm, 609, rfl⟩
abbrev main_while0b_cst_130 : Ref sig .tc := ⟨.hbm, 610, rfl⟩
abbrev main_while0b_v344 : Ref sig .tc := ⟨.hbm, 611, rfl⟩
abbrev main_while0b_v345 : Ref sig .tc := ⟨.hbm, 612, rfl⟩
abbrev main_while0b_v346 : Ref sig .tc := ⟨.hbm, 613, rfl⟩
abbrev main_while0b_v347 : Ref sig .tc := ⟨.hbm, 614, rfl⟩
abbrev main_while0b_cst_131 : Ref sig .tc := ⟨.hbm, 615, rfl⟩
abbrev main_while0b_cst_132 : Ref sig .tc := ⟨.hbm, 616, rfl⟩
abbrev main_while0b_call77_v0 : Ref sig .tc := ⟨.hbm, 617, rfl⟩
abbrev main_while0b_call77_v1 : Ref sig .tc := ⟨.hbm, 618, rfl⟩
abbrev main_while0b_call77_v2 : Ref sig .tc := ⟨.hbm, 619, rfl⟩
abbrev main_while0b_call77_v3 : Ref sig .tc := ⟨.hbm, 620, rfl⟩
abbrev main_while0b_call77_v4 : Ref sig .tc := ⟨.hbm, 621, rfl⟩
abbrev main_while0b_v348 : Ref sig .tc := ⟨.hbm, 622, rfl⟩
abbrev main_while0b_call78_v0 : Ref sig .tc := ⟨.hbm, 623, rfl⟩
abbrev main_while0b_v349 : Ref sig .tc := ⟨.hbm, 624, rfl⟩
abbrev main_while0b_v350 : Ref sig .tc := ⟨.hbm, 625, rfl⟩
abbrev main_while0b_v351 : Ref sig .tc := ⟨.hbm, 626, rfl⟩
abbrev main_while0b_cst_133 : Ref sig .tc := ⟨.hbm, 627, rfl⟩
abbrev main_while0b_v352 : Ref sig .tc := ⟨.hbm, 628, rfl⟩
abbrev main_while0b_v353 : Ref sig .tc := ⟨.hbm, 629, rfl⟩
abbrev main_while0b_cst_134 : Ref sig .tc := ⟨.hbm, 630, rfl⟩
abbrev main_while0b_v354 : Ref sig .tc := ⟨.hbm, 631, rfl⟩
abbrev main_while0b_v355 : Ref sig .tc := ⟨.hbm, 632, rfl⟩
abbrev main_while0b_call79_v0 : Ref sig .tc := ⟨.hbm, 633, rfl⟩
abbrev main_while0b_v356 : Ref sig .tc := ⟨.hbm, 634, rfl⟩
abbrev main_while0b_v357 : Ref sig .tc := ⟨.hbm, 635, rfl⟩
abbrev main_while0b_cst_135 : Ref sig .tc := ⟨.hbm, 636, rfl⟩
abbrev main_while0b_v358 : Ref sig .tc := ⟨.hbm, 637, rfl⟩
abbrev main_while0b_v359 : Ref sig .tc := ⟨.hbm, 638, rfl⟩
abbrev main_while0b_v360 : Ref sig .tc := ⟨.hbm, 639, rfl⟩
abbrev main_while0b_c_136 : Ref sig .tc := ⟨.hbm, 640, rfl⟩
abbrev main_while0b_v361 : Ref sig .tc := ⟨.hbm, 641, rfl⟩
abbrev main_while0b_v362 : Ref sig .tc := ⟨.hbm, 642, rfl⟩
abbrev main_while0b_c_137 : Ref sig .tc := ⟨.hbm, 643, rfl⟩
abbrev main_while0b_v363 : Ref sig .tc := ⟨.hbm, 644, rfl⟩
abbrev main_while0b_v364 : Ref sig .tc := ⟨.hbm, 645, rfl⟩
abbrev main_while0b_v365 : Ref sig .tc := ⟨.hbm, 646, rfl⟩
abbrev main_while0b_v366 : Ref sig .tc := ⟨.hbm, 647, rfl⟩
abbrev main_while0b_v367 : Ref sig .tc := ⟨.hbm, 648, rfl⟩
abbrev main_while0b_v368 : Ref sig .tc := ⟨.hbm, 649, rfl⟩
abbrev main_while0b_cst_138 : Ref sig .tc := ⟨.hbm, 650, rfl⟩
abbrev main_while0b_v369 : Ref sig .tc := ⟨.hbm, 651, rfl⟩
abbrev main_while0b_v370 : Ref sig .tc := ⟨.hbm, 652, rfl⟩
abbrev main_while0b_cst_139 : Ref sig .tc := ⟨.hbm, 653, rfl⟩
abbrev main_while0b_v371 : Ref sig .tc := ⟨.hbm, 654, rfl⟩
abbrev main_while0b_v372 : Ref sig .tc := ⟨.hbm, 655, rfl⟩
abbrev main_while0b_v373 : Ref sig .tc := ⟨.hbm, 656, rfl⟩
abbrev main_while0b_v374 : Ref sig .tc := ⟨.hbm, 657, rfl⟩
abbrev main_while0b_v375 : Ref sig .tc := ⟨.hbm, 658, rfl⟩
abbrev main_while0b_cst_140 : Ref sig .tc := ⟨.hbm, 659, rfl⟩
abbrev main_while0b_cst_141 : Ref sig .tc := ⟨.hbm, 660, rfl⟩
abbrev main_while0b_call80_v0 : Ref sig .tc := ⟨.hbm, 661, rfl⟩
abbrev main_while0b_call80_v1 : Ref sig .tc := ⟨.hbm, 662, rfl⟩
abbrev main_while0b_call80_v2 : Ref sig .tc := ⟨.hbm, 663, rfl⟩
abbrev main_while0b_call80_v3 : Ref sig .tc := ⟨.hbm, 664, rfl⟩
abbrev main_while0b_call80_v4 : Ref sig .tc := ⟨.hbm, 665, rfl⟩
abbrev main_while0b_v376 : Ref sig .tc := ⟨.hbm, 666, rfl⟩
abbrev main_while0b_call81_v0 : Ref sig .tc := ⟨.hbm, 667, rfl⟩
abbrev main_while0b_v377 : Ref sig .tc := ⟨.hbm, 668, rfl⟩
abbrev main_while0b_c_142 : Ref sig .tc := ⟨.hbm, 669, rfl⟩
abbrev main_while0b_v378 : Ref sig .tc := ⟨.hbm, 670, rfl⟩

abbrev nD : Nat := 1
abbrev τ : Topo := Topo.v7x

variable {F : FTy → Type} [FloatOps F]

abbrev main_while0_count : Scf.Loop 32 := ⟨0#32, 20#32, 1#32⟩
-- ==== Proof.KernelIdealRun.lean ====
/-
  The run of `KernelIdeal`: one grid point of the kernel body, and the whole of @main around it.

  The body loads its block, iterates twenty averaged projections on it and stores the result. Neither of its two counted
  loops touches memory, so each IS the fold of its region's yield over its trips (`outer_loop`), and the body is a load,
  a pure computation (`block`) and a store. The launch is the frame kit's: host lines, the region, host lines.
-/
module

public import proofs.«01_k».proof.Proof.Gen.KernelIdeal.Frame
public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two loops as folds -/

/-- What the outer loop carries: the averaged point and the two halves of the corrections. -/
abbrev Carry (F : FTy → Type) : Type := FVec F S8x8x256 .f32 × FVec F S8x8x256 .f32 × FVec F S8x8x256 .f32

/-- The bisection of one outer trip: its midpoint and its step after all inner trips. -/
def bisect (V pa pb : FVec F S8x8x256 .f32) : FVec F S8x256 .f32 × FVec F S8x256 .f32 :=
  Scf.fold (fun (_ : Fin k0_t2_loop.trips) c => (k0_pay15 V pa pb c.1 c.2, k0_pay16 c.2))
    (k0_pay13 V pa pb, k0_pay14 V pa pb)

/-- One outer trip: project each constraint's variables, correct, average. -/
def trip (s : Carry F) : Carry F :=
  have tau : FVec F S1x8x256 .f32 := k0_pay17 (bisect s.1 s.2.1 s.2.2).1
  have eight : F .f32 := Scalar.ofBits .f32 0x41000000#32
  (k0_pay8 (k0_pay10 s.1 s.2.1) (k0_pay11 s.1 s.2.2) tau (k0_pay18 s.1 s.2.1) (k0_pay19 s.1 s.2.2) (k0_pay20 s.1 s.2.1 s.2.2) eight,
   k0_pay6 (k0_pay10 s.1 s.2.1) tau (k0_pay18 s.1 s.2.1) (k0_pay20 s.1 s.2.1 s.2.2) eight,
   k0_pay7 (k0_pay11 s.1 s.2.2) tau (k0_pay19 s.1 s.2.2) (k0_pay20 s.1 s.2.1 s.2.2) eight)

/-- The carry after all outer trips from a loaded block. -/
def iterate (x : Vec F S64x256 .f32) : Carry F :=
  Scf.fold (fun (_ : Fin k0_t1_loop.trips) s => trip s) (k0_pay1 x, k0_pay2 (F := F), k0_pay2 (F := F))

/-- What the body stores for a loaded block. -/
def block (x : Vec F S64x256 .f32) : Vec F S64x256 .f32 := k0_pay9 (iterate x).1

/-- The inner loop issues nothing: it is the return of the bisection. -/
theorem inner_loop (i : grid0.Coords) (arg1 : Memref sig .tc .vmem S64x256 .f32) (harg1 : arg1.IsWhole)
    (arg2 : Memref sig .tc .vmem S64x256 .f32) (harg2 : arg2.IsWhole) (c0 c1 : BitVec 32) (k : Fin k0_t1_loop.trips)
    (V pa pb : FVec F S8x8x256 .f32) :
    Scf.Loop.for k0_t2_loop k0_t2_ok (k0_pay13 V pa pb, k0_pay14 V pa pb) (k0_t2_body i arg1 harg1 arg2 harg2 c0 c1 k V pa pb)
      = .ret ((bisect V pa pb).1, (bisect V pa pb).2) :=
  Scf.for_pure _ _ _ _ _ _ _ (fun _ _ => rfl)

/-- One outer trip's region is the return of `trip`. -/
theorem outer_region (i : grid0.Coords) (arg1 : Memref sig .tc .vmem S64x256 .f32) (harg1 : arg1.IsWhole)
    (arg2 : Memref sig .tc .vmem S64x256 .f32) (harg2 : arg2.IsWhole) (k : Fin k0_t1_loop.trips) (s : Carry F) :
    k0_t1_body i arg1 harg1 arg2 harg2 k s = .ret (trip s) := by
  obtain ⟨V, pa, pb⟩ := s
  unfold k0_t1_body
  simp only [k0_part1_eq_skeleton]
  unfold k0_part1_skel
  rw [inner_loop]
  rfl

/-- The outer loop is the return of the iteration. -/
theorem outer_loop (i : grid0.Coords) (arg1 : Memref sig .tc .vmem S64x256 .f32) (harg1 : arg1.IsWhole)
    (arg2 : Memref sig .tc .vmem S64x256 .f32) (harg2 : arg2.IsWhole) (x : Vec F S64x256 .f32) :
    Scf.Loop.for k0_t1_loop k0_t1_ok (k0_pay1 x, k0_pay2 (F := F), k0_pay2 (F := F)) (k0_t1_body i arg1 harg1 arg2 harg2)
      = .ret ((iterate x).1, (iterate x).2.1, (iterate x).2.2) :=
  Scf.for_pure _ _ _ _ _ _ _ (fun k s => outer_region i arg1 harg1 arg2 harg2 k s)

/-! ## One grid point -/

/-- The whole block, as the rectangle the body loads and stores. -/
abbrev whole : Rect S64x256 := Rect.unit (s := S64x256) ![0, 0] S64x256.size inb_S64x256_S64x256_0_0

/-- What the output's staging buffer holds after the body. -/
def stored (x : Vec F S64x256 .f32) : Vec F S64x256 .f32 :=
  View.canon [⟨whole, block (View.ld x whole)⟩]

/-- The one store covers the buffer. -/
theorem stored_cover (p : Vec F S64x256 .f32) (y : S64x256.Idx) :
    ∃ pc ∈ ([⟨whole, p⟩] : List (View.Piece (Elt F) S64x256 .f32)), y ∈ pc.1.set :=
  View.cover_of_tiled [⟨whole, p⟩] S64x256.size (by rfl) y

set_option maxHeartbeats 1000000 in
/-- THE BODY: from the input block at `x`, it ends with the input as it was and the output at `stored x`. -/
theorem sound_kernel (c : Dev nD) (E : Set ℕ) (i : grid0.Coords) (arg1 : Memref sig .tc .vmem S64x256 .f32)
    (harg1 : arg1.IsWhole) (arg2 : Memref sig .tc .vmem S64x256 .f32) (harg2 : arg2.IsWhole)
    (x : Vec F S64x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) E (cc0__lpsmap_body i arg1 harg1 arg2 harg2) K := by
  simp only [cc0__lpsmap_body_eq_skeleton]; unfold cc0__lpsmap_body_skel
  simp only [outer_loop]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored_cover _)

/-! ## The proof data and the launch -/

variable (m : (ℓ : Loc nD τ sig) → Buf (Elt F) ℓ) (ρ : Dev nD → PrngReg)

/-- The proof data: the arrays as the region finds them; the input block left in place, the output at `stored`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => stored (iblk m c 0 t)
  Φ _ := Pipeline.ΦA spec0 c
  q _ := fullShare
  owed _ := 0

/-- The arrays' entry contents, projected. -/
theorem A_eq (c : Dev nD) (w : Fin cfg0.W) : (dats m 0 c).A w = V m c (Pipeline.arrRef spec0 w) := rfl
/-- The input's staging buffer after the body, projected. -/
theorem after_in (c : Dev nD) (t : Fin cfg0.N) : (dats m 0 c).after 0 t = iblk m c 0 t := by dsimp only [dats]
/-- The output's staging buffer after the body, projected. -/
theorem after_out (c : Dev nD) (t : Fin cfg0.N) : (dats m 0 c).after 1 t = stored (iblk m c 0 t) := by dsimp only [dats]
/-- The input's staging buffer holds its block when the body runs. -/
theorem before_in (c : Dev nD) (t : Fin cfg0.N) (d) : (dats m 0 c).before 0 t d = iblk m c 0 t :=
  before0_0_of m (dats m 0 c) (A_eq m c 0) (after_in m c) t d

/-- The library's body obligation, from `sound_kernel` at each point. -/
theorem body_obligation (c : Dev nD) : BodyObligation (dats (F := F) m 0 c) (defs₀ (F := F)) Variants.none () Set.univ := fun t => by
  rw [bigSep_W0, bigSep_W0]
  show _ ⊢ wp frame (wpE (defs₀ (F := F)) Variants.none c none) Set.univ (bodyAt0 t) _
  unfold bodyAt0
  simp only [before_in]
  rw [show (dats m 0 c).Φ t.succ = (dats m 0 c).Φ t.castSucc from rfl,
    show (dats m 0 c).owesAt () t.succ = (dats m 0 c).owesAt () t.castSucc from rfl, after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

-- the launch theorem's implicit arguments are found by unifying its conclusion with this one
set_option backward.isDefEq.respectTransparency.types false in
/-- THE RUN: @main terminates, every buffer as the proof data computes it, every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The quiescent frame: @main terminates, its argument ends as launched, every semaphore counter at zero. -/
theorem quiescent : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (by decide))).trans
    (W_main_arg0 m (dats m) c), h.2⟩) (run_main m ρ)

end Cert.Proof.KernelIdeal

end
-- ==== Proof.ReferenceRun.lean ====
/-
  The quiescent frame of the reference: its run (the generated module's), and no semaphore in its signature.
-/
module

public import proofs.«01_k».proof.Proof.Gen.ReferenceIdeal.Run
public import Idealize.ShloMosaic.Lib.Quiescent

@[expose] public section

noncomputable section

namespace Cert.Proof.Reference

open Cert.ReferenceIdeal
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The quiescent frame: @main terminates, its argument ends as launched, and there is no semaphore to be nonzero. -/
theorem quiescent : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (Value.run m ρ)

end Cert.Proof.Reference

end
-- ==== Proof.Dykstra.lean ====
/-
  The mathematics of one batch row, over the extended reals, naming no program.

  A row has eight groups of eight variables. Constraint `c` holds the sixteen variables of groups `c` and `c + 1`
  (mod 8): `a` below is its first half, `b` its second. One step projects each constraint's corrected variables, keeps
  what the projection took off as the next correction, and averages the two projections of every variable.
-/
module

public import Idealize.ShloMosaic.Lib.Pointwise

@[expose] public section

set_option maxRecDepth 16384

noncomputable section

namespace Cert.Proof.Dykstra

open Idealize.ShloMosaic

/-! ## The constants -/

/-- The word of `0.5`. -/
abbrev half : EReal := Ideal.ofBits .f32 0x3F000000#32
/-- The word of `0.25`. -/
abbrev quarter : EReal := Ideal.ofBits .f32 0x3E800000#32
/-- The word of `8.0`, every constraint's budget. -/
abbrev eight : EReal := Ideal.ofBits .f32 0x41000000#32
/-- The word of `1e-6`, the least upper end of a bisection. -/
abbrev tiny : EReal := Ideal.ofBits .f32 0x358637BD#32

/-- `0.5` is the real one half. -/
theorem half_eq : half = ((1 / 2 : ℝ) : EReal) := by
  unfold half; simp [Ideal.ofBits, Ideal.ieee]; norm_cast; try norm_num
/-- `0.25` is the real one quarter. -/
theorem quarter_eq : quarter = ((1 / 4 : ℝ) : EReal) := by
  unfold quarter; simp [Ideal.ofBits, Ideal.ieee]; norm_cast; try norm_num
/-- `1e-6` is some real number. -/
theorem tiny_real : ∃ r : ℝ, tiny = (r : EReal) := by
  unfold tiny; simp [Ideal.ofBits, Ideal.ieee]; exact ⟨_, rfl⟩

/-! ## One constraint -/

/-- `x` clipped into the unit interval. -/
def clip (x : EReal) : EReal := min 1 (max 0 x)

/-- The sum of the clipped variables lowered by `t`. -/
def lowered (a b : Fin 8 → EReal) (t : EReal) : EReal := ∑ j, (clip (a j - t) + clip (b j - t))

/-- The sum of the clipped variables. -/
def plain (a b : Fin 8 → EReal) : EReal := ∑ j, (clip (a j) + clip (b j))

/-- The bisection's upper end: the greatest variable, and `1e-6` at least. -/
def top (a b : Fin 8 → EReal) : EReal := max (Finset.univ.sup fun j => max (a j) (b j)) tiny

/-- One bisection step on a midpoint and a step width. -/
def halve (a b : Fin 8 → EReal) (c : EReal × EReal) : EReal × EReal :=
  (c.1 + (if eight < lowered a b c.1 then c.2 else 0 - c.2), half * c.2)

/-- The threshold found by bisection on a midpoint and a step width. -/
def thresh (a b : Fin 8 → EReal) : EReal := ((halve a b)^[25] (half * top a b, quarter * top a b)).1

/-- One bisection step on the two ends of an interval. -/
def split (a b : Fin 8 → EReal) (c : EReal × EReal) : EReal × EReal :=
  (if eight < lowered a b (half * (c.1 + c.2)) then half * (c.1 + c.2) else c.1,
   if eight < lowered a b (half * (c.1 + c.2)) then c.2 else half * (c.1 + c.2))

/-- The threshold found by bisection on the ends of an interval. -/
def threshEnds (a b : Fin 8 → EReal) : EReal :=
  half * (((split a b)^[25] (0, top a b)).1 + ((split a b)^[25] (0, top a b)).2)

/-- A variable's projection: clipped, after lowering by the threshold where the budget is exceeded. -/
def proj (a b : Fin 8 → EReal) (x : EReal) : EReal :=
  if eight < plain a b then clip (x - thresh a b) else clip x

/-! ## The two bisections agree -/

/-- Real ends `lo`, `hi` stand for the midpoint `(lo + hi) / 2` and the width `(hi - lo) / 4`. -/
def Stands (e c : EReal × EReal) : Prop :=
  ∃ lo hi : ℝ, e = ((lo : EReal), (hi : EReal)) ∧ c = ((((lo + hi) / 2 : ℝ) : EReal), (((hi - lo) / 4 : ℝ) : EReal))

/-- Half of a sum of reals. -/
theorem half_add (lo hi : ℝ) : half * ((lo : EReal) + (hi : EReal)) = (((lo + hi) / 2 : ℝ) : EReal) := by
  rw [half_eq]; norm_cast; ring_nf

/-- One step of each bisection keeps the correspondence. -/
theorem Stands.step (a b : Fin 8 → EReal) {e c : EReal × EReal} (h : Stands e c) :
    Stands (split a b e) (halve a b c) := by
  obtain ⟨lo, hi, rfl, rfl⟩ := h
  unfold split halve
  rw [half_add, half_eq]
  by_cases g : eight < lowered a b (((lo + hi) / 2 : ℝ) : EReal)
  · refine ⟨(lo + hi) / 2, hi, ?_, ?_⟩
    · simp only [g, if_true]
    · simp only [g, if_true]
      refine Prod.ext ?_ ?_ <;> dsimp only <;> norm_cast <;> ring
  · refine ⟨lo, (lo + hi) / 2, ?_, ?_⟩
    · simp only [g, if_false]
    · simp only [g, if_false]
      refine Prod.ext ?_ ?_
      · dsimp only
        rw [zero_sub, ← EReal.coe_neg, ← EReal.coe_add]; norm_cast; ring
      · dsimp only
        norm_cast; ring

/-- Any number of steps keeps the correspondence. -/
theorem Stands.iterate (a b : Fin 8 → EReal) {e c : EReal × EReal} (h : Stands e c) (n : ℕ) :
    Stands ((split a b)^[n] e) ((halve a b)^[n] c) := by
  induction n with
  | zero => exact h
  | succ n ih => rw [Function.iterate_succ_apply', Function.iterate_succ_apply']; exact ih.step a b

/-- The upper end is real when no variable is `+∞`. -/
theorem top_real (a b : Fin 8 → EReal) (ha : ∀ j, a j < ⊤) (hb : ∀ j, b j < ⊤) : ∃ r : ℝ, top a b = (r : EReal) := by
  obtain ⟨r, hr⟩ := tiny_real
  have h1 : top a b < ⊤ := by
    unfold top
    refine max_lt ?_ (hr ▸ EReal.coe_lt_top r)
    exact (Finset.sup_lt_iff bot_lt_top).2 fun j _ => max_lt (ha j) (hb j)
  have h2 : ⊥ < top a b := lt_of_lt_of_le (hr ▸ EReal.bot_lt_coe r) (le_max_right _ _)
  exact ⟨(top a b).toReal, (EReal.coe_toReal h1.ne h2.ne').symm⟩

/-- THE BISECTIONS AGREE: on variables below `+∞` both find the same threshold. -/
theorem threshEnds_eq (a b : Fin 8 → EReal) (ha : ∀ j, a j < ⊤) (hb : ∀ j, b j < ⊤) : threshEnds a b = thresh a b := by
  obtain ⟨r, hr⟩ := top_real a b ha hb
  have h0 : Stands (0, top a b) (half * top a b, quarter * top a b) := by
    refine ⟨0, r, by rw [hr]; rfl, ?_⟩
    rw [hr, half_eq, quarter_eq]
    refine Prod.ext ?_ ?_ <;> dsimp only <;> norm_cast <;> ring
  obtain ⟨lo, hi, h1, h2⟩ := h0.iterate a b 25
  unfold threshEnds thresh
  rw [h1, h2]
  exact half_add lo hi

/-! ## One row -/

/-- A row's point and the two halves of its corrections, each by group and member. -/
abbrev State : Type := (Fin 8 → Fin 8 → EReal) × (Fin 8 → Fin 8 → EReal) × (Fin 8 → Fin 8 → EReal)

/-- Constraint `c`'s corrected variables of its own group. -/
def ya (s : State) (c j : Fin 8) : EReal := s.1 c j + s.2.1 c j
/-- Constraint `c`'s corrected variables of the next group. -/
def yb (s : State) (c j : Fin 8) : EReal := s.1 (c + 1) j + s.2.2 c j
/-- Their projections. -/
def za (s : State) (c j : Fin 8) : EReal := proj (ya s c) (yb s c) (ya s c j)
/-- Their projections. -/
def zb (s : State) (c j : Fin 8) : EReal := proj (ya s c) (yb s c) (yb s c j)

/-- One averaged projection. -/
def step (s : State) : State :=
  (fun c j => (za s c j + zb s (c - 1) j) * half, fun c j => ya s c j - za s c j, fun c j => yb s c j - zb s c j)

/-- Nothing of the state is `+∞`. -/
def Below (s : State) : Prop := ∀ c j, s.1 c j < ⊤ ∧ s.2.1 c j < ⊤ ∧ s.2.2 c j < ⊤

theorem Below.ya {s : State} (h : Below s) (c j : Fin 8) : ya s c j < ⊤ := EReal.add_lt_top (h c j).1.ne (h c j).2.1.ne
theorem Below.yb {s : State} (h : Below s) (c j : Fin 8) : yb s c j < ⊤ :=
  EReal.add_lt_top (h (c + 1) j).1.ne (h c j).2.2.ne

/-- A clipped value is at least zero. -/
theorem clip_nonneg (x : EReal) : 0 ≤ clip x := le_min zero_le_one (le_max_left _ _)
/-- A clipped value is at most one. -/
theorem clip_le_one (x : EReal) : clip x ≤ 1 := min_le_left _ _
/-- A projection is at least zero. -/
theorem proj_nonneg (a b : Fin 8 → EReal) (x : EReal) : 0 ≤ proj a b x := by
  unfold proj; split <;> exact clip_nonneg _
/-- A projection is at most one. -/
theorem proj_le_one (a b : Fin 8 → EReal) (x : EReal) : proj a b x ≤ 1 := by
  unfold proj; split <;> exact clip_le_one _
/-- A projection is below `+∞`. -/
theorem proj_lt_top (a b : Fin 8 → EReal) (x : EReal) : proj a b x < ⊤ :=
  lt_of_le_of_lt (proj_le_one a b x) (EReal.coe_lt_top 1)

/-- What is below `+∞` stays so less a projection. -/
theorem sub_proj_lt_top (a b : Fin 8 → EReal) (x y : EReal) (hy : y < ⊤) : y - proj a b x < ⊤ := by
  refine lt_of_le_of_lt ?_ hy
  calc y - proj a b x ≤ y - 0 := EReal.sub_le_sub le_rfl (proj_nonneg a b x)
    _ = y := sub_zero y

/-- One step keeps the state below `+∞`. -/
theorem Below.step {s : State} (h : Below s) : Below (step s) := by
  intro c j
  refine ⟨?_, sub_proj_lt_top _ _ _ _ (h.ya c j), sub_proj_lt_top _ _ _ _ (h.yb c j)⟩
  show (za s c j + zb s (c - 1) j) * half < ⊤
  have h1 : za s c j + zb s (c - 1) j ≤ 1 + 1 := add_le_add (proj_le_one _ _ _) (proj_le_one _ _ _)
  have h0 : (0 : EReal) ≤ half := by rw [half_eq]; norm_cast; norm_num
  refine lt_of_le_of_lt (mul_le_mul_of_nonneg_right h1 h0) ?_
  rw [half_eq, show (1 : EReal) + 1 = ((2 : ℝ) : EReal) by norm_cast, ← EReal.coe_mul]
  exact EReal.coe_lt_top _

/-- Any number of steps keeps the state below `+∞`. -/
theorem Below.iterate {s : State} (h : Below s) (n : ℕ) : Below (Dykstra.step^[n] s) := by
  induction n with
  | zero => exact h
  | succ n ih => rw [Function.iterate_succ_apply']; exact ih.step

/-! ## Sums and maxima over sixteen as over two eights -/

/-- Sixteen summands are eight pairs, `j` with `8 + j`. -/
theorem sum_pairs (f : Fin 16 → EReal) : ∑ k, f k = ∑ j : Fin 8, (f (Fin.castAdd 8 j) + f (Fin.natAdd 8 j)) := by
  rw [Finset.sum_add_distrib]; exact Fin.sum_univ_add (a := 8) (b := 8) f

/-- The greatest of sixteen is the greatest of eight pairs' greater. -/
theorem sup_pairs (f : Fin 16 → EReal) :
    Finset.univ.sup f = Finset.univ.sup fun j : Fin 8 => max (f (Fin.castAdd 8 j)) (f (Fin.natAdd 8 j)) := by
  apply le_antisymm
  · refine Finset.sup_le fun k _ => ?_
    by_cases hk : k.val < 8
    · exact le_trans (le_max_left (f k) _) (Finset.le_sup (f := fun j : Fin 8 => max (f (Fin.castAdd 8 j)) (f (Fin.natAdd 8 j)))
        (Finset.mem_univ (⟨k.val, hk⟩ : Fin 8)))
    · have e : k = Fin.natAdd 8 (⟨k.val - 8, by omega⟩ : Fin 8) := Fin.ext (by simp; omega)
      rw [e]
      exact le_trans (le_max_right _ _) (Finset.le_sup (f := fun j : Fin 8 => max (f (Fin.castAdd 8 j)) (f (Fin.natAdd 8 j)))
        (Finset.mem_univ _))
  · exact Finset.sup_le fun j _ => max_le (Finset.le_sup (Finset.mem_univ _)) (Finset.le_sup (Finset.mem_univ _))

/-- Eight summands as a balanced tree. -/
theorem sum_tree (f : Fin 8 → EReal) : ∑ j, f j = ((f 0 + f 1) + (f 2 + f 3)) + ((f 4 + f 5) + (f 6 + f 7)) := by
  rw [Fin.sum_univ_eight]; ac_rfl

/-- A maximum folded from the least element is the supremum. -/
theorem fold_max {n : ℕ} (f : Fin n → EReal) : Finset.univ.fold max ⊥ f = Finset.univ.sup f := rfl

end Cert.Proof.Dykstra

end
-- ==== Proof.KernelTrip.lean ====
/-
  One column of the kernel's block, trip by trip: entry `(j, c, l)` of each carried array is member `j` of group `c`
  of column `l`, and one outer trip of the kernel is one step of that column's row.
-/
module

public import proofs.«01_k».proof.Proof.KernelIdealRun
public import proofs.«01_k».proof.Proof.Dykstra
public import Idealize.ShloMosaic.Lib.Pipeline.ValueKit

@[expose] public section

set_option maxRecDepth 16384

noncomputable section

namespace Cert.Proof.KernelTrip

open Cert.KernelIdeal Cert.KernelIdeal.Gen Cert.Proof.KernelIdeal Cert.Proof.Dykstra
open Idealize.ShloMosaic

variable (V pa pb : FVec Ideal S8x8x256 .f32) (j c : Fin 8) (l : Fin 256)

/-- Column `l` of the three carried arrays, as a row's state. -/
def column (s : Carry Ideal) (l : Fin 256) : State :=
  (fun c j => s.1 (ix3 j c l), fun c j => s.2.1 (ix3 j c l), fun c j => s.2.2 (ix3 j c l))

/-- Rolled by seven, place `c` reads the next group. -/
theorem next_eq (h) : (⟨(c.val + 8 - 7) % 8, h⟩ : Fin 8) = c + 1 := by fin_cases c <;> rfl
/-- Rolled by one, place `c` reads the group before. -/
theorem prev_eq (h) : (⟨(c.val + 8 - 1) % 8, h⟩ : Fin 8) = c - 1 := by fin_cases c <;> rfl

/-- The word of `-∞` is the least element. -/
theorem neg_inf : Ideal.ofBits .f32 0xFF800000#32 = (⊥ : EReal) := by simp [Ideal.ofBits, Ideal.ieee]

/-! ## The payloads at an index -/

/-- The corrected variables of each constraint's own group. -/
theorem pay10_at : k0_pay10 V pa (ix3 j c l) = ya (column (V, pa, pb) l) c j := by
  pointwise [k0_pay10]
  rfl

/-- The corrected variables of the next group. -/
theorem pay11_at : k0_pay11 V pb (ix3 j c l) = yb (column (V, pa, pb) l) c j := by
  pointwise [k0_pay11]
  rw [next_eq]
  rfl

/-- The bisection's upper end. -/
theorem pay12_at : k0_pay12 V pa pb (ix2 c l) = top (ya (column (V, pa, pb) l) c) (yb (column (V, pa, pb) l) c) := by
  pointwise [k0_pay12]
  simp only [pay10_at V pa pb, pay11_at V pa pb, neg_inf]
  rfl

/-- Two arrays' sum over the eight members, as the kernel's balanced tree of it. -/
theorem pay15_at (mid d : FVec Ideal S8x256 .f32) :
    k0_pay15 V pa pb mid d (ix2 c l)
      = (halve (ya (column (V, pa, pb) l) c) (yb (column (V, pa, pb) l) c) (mid (ix2 c l), d (ix2 c l))).1 := by
  unfold halve lowered
  rw [sum_tree]
  pointwise [k0_pay15]
  simp only [pay10_at V pa pb, pay11_at V pa pb]
  rfl

/-- The unlowered sum. -/
theorem pay20_at : k0_pay20 V pa pb (ix2 c l) = plain (ya (column (V, pa, pb) l) c) (yb (column (V, pa, pb) l) c) := by
  unfold plain
  rw [sum_tree]
  pointwise [k0_pay20, k0_pay18, k0_pay19]
  simp only [pay10_at V pa pb, pay11_at V pa pb]
  rfl

/-! ## The bisection -/

/-- The bisection's pair at constraint `c` of column `l`. -/
def entry (c : Fin 8) (l : Fin 256) (x : FVec Ideal S8x256 .f32 × FVec Ideal S8x256 .f32) : EReal × EReal :=
  (x.1 (ix2 c l), x.2 (ix2 c l))

/-- A counted loop whose trips do not look at the counter is the iterate of its region. -/
theorem fold_const {A : Type} {n : ℕ} (f : A → A) (x : A) : Scf.fold (fun (_ : Fin n) s => f s) x = f^[n] x := by
  rw [Scf.fold_eq, List.foldl_const, List.length_finRange]

/-- The outer loop runs twenty times. -/
theorem outer_trips : k0_t1_loop.trips = 20 := by decide +kernel
/-- The inner loop runs twenty-five times. -/
theorem inner_trips : k0_t2_loop.trips = 25 := by decide +kernel

/-- The whole bisection at an index is the row's. -/
theorem bisect_at : (bisect V pa pb).1 (ix2 c l) = thresh (ya (column (V, pa, pb) l) c) (yb (column (V, pa, pb) l) c) := by
  unfold bisect thresh
  rw [fold_const (fun c => (k0_pay15 V pa pb c.1 c.2, k0_pay16 c.2)), inner_trips]
  have hs : Function.Semiconj (entry c l) (fun c => (k0_pay15 V pa pb c.1 c.2, k0_pay16 c.2))
      (halve (ya (column (V, pa, pb) l) c) (yb (column (V, pa, pb) l) c)) := fun x =>
    Prod.ext (pay15_at V pa pb c l x.1 x.2) (by
      show k0_pay16 x.2 (ix2 c l) = half * x.2 (ix2 c l)
      pointwise [k0_pay16])
  have h0 : entry c l (k0_pay13 V pa pb, k0_pay14 V pa pb)
      = (half * top (ya (column (V, pa, pb) l) c) (yb (column (V, pa, pb) l) c),
         quarter * top (ya (column (V, pa, pb) l) c) (yb (column (V, pa, pb) l) c)) := by
    refine Prod.ext ?_ ?_
    · show k0_pay13 V pa pb (ix2 c l) = _
      rw [← pay12_at]
      pointwise [k0_pay13]
    · show k0_pay14 V pa pb (ix2 c l) = _
      rw [← pay12_at]
      pointwise [k0_pay14]
  have h := hs.iterate_right 25 (k0_pay13 V pa pb, k0_pay14 V pa pb)
  rw [h0] at h
  rw [← h]
  rfl

/-! ## The projections -/

/-- The own group's projections. -/
theorem pay4_at : k0_pay4 (k0_pay10 V pa) (k0_pay17 (bisect V pa pb).1) (k0_pay18 V pa) (k0_pay20 V pa pb)
      (Scalar.ofBits .f32 0x41000000#32) (ix3 j c l) = za (column (V, pa, pb) l) c j := by
  unfold za proj
  rw [← bisect_at, ← pay20_at, ← pay10_at]
  pointwise [k0_pay4, k0_pay3, k0_pay17, k0_pay18]
  rfl

/-- The next group's projections. -/
theorem pay5_at : k0_pay5 (k0_pay11 V pb) (k0_pay17 (bisect V pa pb).1) (k0_pay19 V pb) (k0_pay20 V pa pb)
      (Scalar.ofBits .f32 0x41000000#32) (ix3 j c l) = zb (column (V, pa, pb) l) c j := by
  unfold zb proj
  rw [← bisect_at, ← pay20_at, ← pay11_at]
  pointwise [k0_pay5, k0_pay3, k0_pay17, k0_pay19]
  rfl

/-! ## One trip and all of them -/

/-- ONE OUTER TRIP on a column is one step of its row. -/
theorem trip_column (s : Carry Ideal) : column (trip s) l = step (column s l) := by
  obtain ⟨V, pa, pb⟩ := s
  refine Prod.ext (funext fun c => funext fun j => ?_) (Prod.ext (funext fun c => funext fun j => ?_) (funext fun c => funext fun j => ?_))
  · show k0_pay8 (F := Ideal) _ _ _ _ _ _ _ (ix3 j c l) = (za _ c j + zb _ (c - 1) j) * half
    rw [← pay4_at, ← pay5_at, ← prev_eq c (Nat.mod_lt _ (by norm_num))]
    pointwise [k0_pay8]
  · show k0_pay6 (F := Ideal) _ _ _ _ _ (ix3 j c l) = ya _ c j - za _ c j
    rw [← pay4_at, ← pay10_at]
    pointwise [k0_pay6]
  · show k0_pay7 (F := Ideal) _ _ _ _ _ (ix3 j c l) = yb _ c j - zb _ c j
    rw [← pay5_at, ← pay11_at]
    pointwise [k0_pay7]

/-- A row's state before the first step: the scores, no corrections. -/
def start (u : Fin 8 → Fin 8 → EReal) : State := (u, fun _ _ => 0, fun _ _ => 0)

/-- ALL TRIPS on a column are twenty steps of its row. -/
theorem iterate_column (x : Vec Ideal S64x256 .f32) :
    column (iterate x) l = step^[20] (start fun c j => k0_pay1 x (ix3 j c l)) := by
  unfold iterate
  rw [fold_const trip, outer_trips]
  have h := Function.Semiconj.iterate_right (f := fun s => column s l) (fun s => trip_column l s) 20
    (k0_pay1 x, k0_pay2 (F := Ideal), k0_pay2 (F := Ideal))
  refine h.trans (congrArg _ ?_)
  refine Prod.ext rfl (Prod.ext (funext fun c => funext fun j => ?_) (funext fun c => funext fun j => ?_)) <;>
  · show k0_pay2 (F := Ideal) (ix3 j c l) = 0
    pointwise [k0_pay2]

/-- The stored block: row `j * 8 + c` of column `l` is member `j` of group `c` after twenty steps from the loaded column. -/
theorem block_at (x : Vec Ideal S64x256 .f32) :
    block x (ix2 ⟨j.val * 8 + c.val, by omega⟩ l)
      = (step^[20] (start fun c j => x (ix2 ⟨j.val * 8 + c.val, by omega⟩ l))).1 c j := by
  have h := congrArg (fun s : State => s.1 c j) (iterate_column l x)
  have hx : (fun c j => k0_pay1 x (ix3 j c l)) = fun c j : Fin 8 => x (ix2 (⟨j.val * 8 + c.val, by omega⟩ : Fin 64) l) := by
    funext c j
    pointwise [k0_pay1]
    blk_ext
  rw [hx] at h
  refine Eq.trans ?_ h
  show block x _ = (iterate x).1 (ix3 j c l)
  pointwise [block, k0_pay9]
  blk_ext

end Cert.Proof.KernelTrip

end
-- ==== Proof.KernelValue.lean ====
/-
  What the kernel's result holds: entry `(b, g * 8 + j)` is member `j` of group `g` of row `b` after twenty steps from
  the scores. The host lines before the launch lay the scores out by columns, member first; those after it undo that.
-/
module

public import proofs.«01_k».proof.Proof.KernelTrip
public import Idealize.ShloMosaic.Lib.Claim

@[expose] public section

set_option maxRecDepth 16384

noncomputable section

namespace Cert.Proof.KernelValue

open Cert.KernelIdeal Cert.KernelIdeal.Gen Cert.Proof.KernelIdeal Cert.Proof.Dykstra Cert.Proof.KernelTrip
open Idealize.ShloMosaic Idealize.ShloMosaic.TcCoe Idealize.SL.Sem
open Idealize.ShloMosaic.Pipeline (Dat)

/-- Row `b` of the scores before the first step. -/
def row (X : FVec Ideal S4096x64 .f32) (b : Fin 4096) : State :=
  start fun g j => X (ix2 b ⟨g.val * 8 + j.val, by omega⟩)

/-- Member `j` of group `g` of row `b` after twenty steps. -/
def member (X : FVec Ideal S4096x64 .f32) (b : Fin 4096) (g j : Fin 8) : EReal := (step^[20] (row X b)).1 g j

/-- Two spellings of the same group and member. -/
theorem member_congr (X : FVec Ideal S4096x64 .f32) (b : Fin 4096) {g g' j j' : Fin 8} (hg : g.val = g'.val) (hj : j.val = j'.val) :
    member X b g j = member X b g' j' := by rw [Fin.ext hg, Fin.ext hj]

/-- The kernel's array: row `j * 8 + g` of column `b` is member `j` of group `g` of row `b` after twenty steps. -/
def array (X : FVec Ideal S4096x64 .f32) : FVec Ideal S64x4096 .f32 := fun i =>
  member X (i 1) ⟨(i 0).val % 8, by omega⟩ ⟨(i 0).val / 8, by have := ValueIdx.idx2_lt0 i; omega⟩

variable (m : (ℓ : Loc nD τ sig) → Buf (Elt Ideal) ℓ)

/-- Both windows take block `t` of the columns. -/
theorem idx : ∀ t : Fin cfg0.N, win0_0.index t = ![0, t.val] ∧ win0_1.index t = ![0, t.val] :=
  (by decide +kernel : ∀ t : Fin grid0.N, _)

/-- The host lines before the launch. -/
abbrev before (X : FVec Ideal S4096x64 .f32) : FVec Ideal S64x4096 .f32 :=
  shapeCast S64x4096 (transpose S8x8x4096 [1, 0, 2] (shapeCast S8x8x4096 (transpose S64x4096 [1, 0] X
    transposes_S4096x64_S64x4096_1_0) shapeCasts_S64x4096_S8x8x4096) transposes_S8x8x4096_S8x8x4096_1_0_2) shapeCasts_S8x8x4096_S64x4096

/-- The host lines after the launch. -/
abbrev behind (Y : FVec Ideal S64x4096 .f32) : FVec Ideal S4096x64 .f32 :=
  transpose S4096x64 [1, 0] (shapeCast S64x4096 (transpose S8x8x4096 [1, 0, 2] (shapeCast S8x8x4096 Y
    shapeCasts_S64x4096_S8x8x4096) transposes_S8x8x4096_S8x8x4096_1_0_2) shapeCasts_S8x8x4096_S64x4096) transposes_S64x4096_S4096x64_1_0

/-- Before the launch the scores lie by columns, member first. -/
theorem before_at (X : FVec Ideal S4096x64 .f32) (g j : Fin 8) (b : Fin 4096) :
    before X (ix2 ⟨j.val * 8 + g.val, by omega⟩ b) = X (ix2 b ⟨g.val * 8 + j.val, by omega⟩) := by
  pointwise
  blk_ext

/-- After the launch the rows are back in place. -/
theorem behind_at (Y : FVec Ideal S64x4096 .f32) (g j : Fin 8) (b : Fin 4096) :
    behind Y (ix2 b ⟨g.val * 8 + j.val, by omega⟩) = Y (ix2 ⟨j.val * 8 + g.val, by omega⟩ b) := by
  pointwise
  blk_ext

/-- What the launch loads. -/
theorem loaded (c : Dev nD) : V m c main_v3 = before (m ((c : Thread nD τ).loc main_arg0)) := by
  rfl

/-- What is returned, of the array the launch leaves. -/
theorem returned (W : Valuation τ sig (Elt Ideal)) :
    StableHlo.after hostOps1 W (Proc.devRef .tc main_v8) = behind (W (Proc.devRef .tc main_v4)) := by
  rfl

/-- A column of the block a point loads is a column of the loaded array. -/
theorem block_read (c : Dev nD) (t : Fin cfg0.N) (r : Fin 64) (l : Fin 256) (b : Fin 4096) (hb : b.val = t.val * 256 + l.val) :
    (iblk m c 0 t : FVec Ideal S64x256 .f32) (ix2 r l) = (V m c main_v3 : FVec Ideal S64x4096 .f32) (ix2 r b) := by
  blk_ext [iblk, idx t]

/-- The array at a member and a group. -/
theorem array_at (X : FVec Ideal S4096x64 .f32) (g j : Fin 8) (b : Fin 4096) :
    array X (ix2 ⟨j.val * 8 + g.val, by omega⟩ b) = member X b g j := by
  exact member_congr X b (show (j.val * 8 + g.val) % 8 = g.val by omega) (show (j.val * 8 + g.val) / 8 = j.val by omega)

/-- What the body leaves at a point, at a member, a group and a column. -/
theorem point_at (c : Dev nD) (t : Fin cfg0.N) (g j : Fin 8) (l : Fin 256) (b : Fin 4096) (hb : b.val = t.val * 256 + l.val) :
    block (iblk m c 0 t) (ix2 ⟨j.val * 8 + g.val, by omega⟩ l)
      = array (m ((c : Thread nD τ).loc main_arg0)) (ix2 ⟨j.val * 8 + g.val, by omega⟩ b) := by
  rw [block_at, array_at]
  unfold member row
  refine congrArg (fun u => (step^[20] (start u)).1 g j) (funext fun g' => funext fun j' => ?_)
  rw [block_read m c t _ l b hb, loaded]
  exact before_at _ g' j' b

/-- What the body leaves at a point, at an index. -/
theorem point (c : Dev nD) (t : Fin cfg0.N) (y : S64x256.Idx) :
    stored (iblk m c 0 t) y
      = array (m ((c : Thread nD τ).loc main_arg0)) (((cfg0.win 1).blk t).view.emb y) := by
  unfold stored
  frame_out
  have h0 : (y 0).val < 64 := ValueIdx.idx2_lt0 y
  have h1 : (y 1).val < 256 := ValueIdx.idx2_lt1 y
  have ht : t.val < 16 := t.isLt
  have hr : (⟨(y 0).val / 8, by omega⟩ : Fin 8).val * 8 + (⟨(y 0).val % 8, by omega⟩ : Fin 8).val < 64 := by dsimp only; omega
  have ey : y = ix2 (⟨_, hr⟩ : Fin 64) (⟨(y 1).val, h1⟩ : Fin 256) := by blk_ext
  have ee : ((cfg0.win 1).blk t).view.emb y = ix2 (⟨_, hr⟩ : Fin 64) (⟨t.val * 256 + (y 1).val, by omega⟩ : Fin 4096) := by
    blk_ext [idx t]
  rw [ee]
  exact (congrArg (block (iblk m c 0 t)) ey).trans (point_at m c t _ _ _ _ rfl)

/-- THE ARRAY after the launch. -/
theorem final (c : Dev nD) : (dats m 0 c).arrAt 1 (cfgs 0).N = array (m ((c : Thread nD τ).loc main_arg0)) := by
  refine (dats m 0 c).arrAt_eq_of_covers 1 _ (by decide +kernel) fun t _ y => ?_
  blk_simp
  rw [after_out]
  exact point m c t y

/-- What the kernel returns: entry `(b, g * 8 + j)` is member `j` of group `g` of row `b` after twenty steps. -/
def result (X : FVec Ideal S4096x64 .f32) : FVec Ideal S4096x64 .f32 := fun i =>
  member X (i 0) ⟨(i 1).val / 8, by have := ValueIdx.idx2_lt1 i; omega⟩ ⟨(i 1).val % 8, by omega⟩

/-- The result at a group and a member. -/
theorem result_at (X : FVec Ideal S4096x64 .f32) (g j : Fin 8) (b : Fin 4096) :
    result X (ix2 b ⟨g.val * 8 + j.val, by omega⟩) = member X b g j := by
  exact member_congr X b (show (g.val * 8 + j.val) / 8 = g.val by omega) (show (g.val * 8 + j.val) % 8 = j.val by omega)

/-- Two results are equal that agree at every row, group and member. -/
theorem ext_at (X Y : FVec Ideal S4096x64 .f32)
    (h : ∀ (b : Fin 4096) (g j : Fin 8), X (ix2 b ⟨g.val * 8 + j.val, by omega⟩) = Y (ix2 b ⟨g.val * 8 + j.val, by omega⟩)) :
    X = Y := by
  funext i
  have h1 : (i 1).val < 64 := ValueIdx.idx2_lt1 i
  have hr : (⟨(i 1).val / 8, by omega⟩ : Fin 8).val * 8 + (⟨(i 1).val % 8, by omega⟩ : Fin 8).val < 64 := by dsimp only; omega
  have ei : i = ix2 (⟨(i 0).val, ValueIdx.idx2_lt0 i⟩ : Fin 4096) (⟨_, hr⟩ : Fin 64) := by blk_ext
  exact (congrArg X ei).trans ((h _ _ _).trans (congrArg Y ei).symm)

/-- The lines after the launch take the array to the result. -/
theorem behind_array (X : FVec Ideal S4096x64 .f32) : behind (array X) = result X :=
  ext_at _ _ fun b g j => (behind_at (array X) g j b).trans ((array_at X g j b).trans (result_at X g j b).symm)

/-- THE KERNEL'S RUN: it ends with `result` of the scores, the scores as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = result (m ((c.tc : Thread nD τ).loc main_arg0))
        ∧ r.2.mem ((c.tc : Thread nD τ).loc main_arg0) = m ((c.tc : Thread nD τ).loc main_arg0)) := by
  refine (θ_run defs _ _).mono (fun _ h c => ⟨?_, ?_⟩) (run_main m ρ)
  · refine ((h.1 c).2 main_v8 (Pipeline.mem_restRefs_of main_v8 (by decide) (by decide))).trans ?_
    unfold Pipeline.afterTail₀
    refine (returned _).trans (Eq.trans (congrArg behind ?_) (behind_array _))
    refine Eq.trans (Pipeline.withArrays_arr spec0 (by decide) c (V0 m c) _ 1) (final m c)
  · exact ((h.1 c).2 main_arg0 (Pipeline.mem_restRefs_of main_arg0 (by decide) (by decide))).trans (W_main_arg0 m (dats m) c)

end Cert.Proof.KernelValue

end
-- ==== Proof.RefIndex.lean ====
/-
  Which variables a constraint holds, and what that makes of the reference's gather and scatter-adds at an index.

  Place `k` of constraint `c` is variable `(8 c + k) mod 64`. Read the other way, member `j` of group `g` is place `j` of
  constraint `g` and place `8 + j` of constraint `g - 1`, and no other.
-/
module

public import proofs.«01_k».proof.Proof.Gen.ReferenceIdeal.Run
public import proofs.«01_k».proof.Proof.Dykstra
public import Idealize.ShloMosaic.Lib.Routing.OpsPair
public import Idealize.ShloMosaic.Lib.Pipeline.ValueKit

@[expose] public section

set_option maxRecDepth 16384

noncomputable section

namespace Cert.Proof.RefIndex

open Cert.ReferenceIdeal Cert.ReferenceIdeal.Gen
open Idealize.ShloMosaic

/-! ## The table of variables -/

/-- The variable at flat place `t` of the table. -/
def flat (t : Fin 128) : Fin 64 := ⟨(8 * (t.val / 16) + t.val % 16) % 64, Nat.mod_lt _ (by norm_num)⟩

/-- The literal table. -/
theorem lit_eq : ∀ t : Fin 128, lit0 t = BitVec.ofNat 32 (flat t).val := by decide +kernel

/-- The flat place of place `k` of constraint `c`. -/
def place (c : Fin 8) (k : Fin 16) : Fin 128 := ⟨c.val * 16 + k.val, by omega⟩

/-- The index table, as the program holds it. -/
abbrev table : IVec S8x16 32 := fun i => lit0 (S8x16.rowMajor i)

/-- The table at a constraint and a place. -/
theorem table_at (c : Fin 8) (k : Fin 16) : table (ix2 c k) = BitVec.ofNat 32 (flat (place c k)).val := by
  show lit0 (S8x16.rowMajor (ix2 c k)) = _
  rw [show S8x16.rowMajor (ix2 c k) = place c k from Fin.ext (Shape.rowMajor_val_two _), lit_eq]

/-- A variable's word is not negative. -/
theorem small (n : Fin 64) : (BitVec.ofNat 32 n.val).toNat < 2 ^ 31 := by
  rw [BitVec.toNat_ofNat]; have := n.isLt; omega

/-- A variable's word, read signed, is the variable. -/
theorem toInt_small (n : Fin 64) : (BitVec.ofNat 32 n.val).toInt = (n.val : Int) := by
  revert n; decide +kernel

/-- The two flat places at which member `j` of group `g` stands. -/
def own (g j : Fin 8) : Fin 128 := place g (Fin.castAdd 8 j)
/-- The two flat places at which member `j` of group `g` stands. -/
def other (g j : Fin 8) : Fin 128 := place (g - 1) (Fin.natAdd 8 j)

/-- They are its only places. -/
theorem flat_iff : ∀ (g j : Fin 8) (t : Fin 128), (flat t).val = g.val * 8 + j.val ↔ t = own g j ∨ t = other g j := by
  decide +kernel

/-- They are two. -/
theorem own_ne_other : ∀ g j : Fin 8, own g j ≠ other g j := by decide +kernel

/-- The first half of constraint `c` is its own group. -/
theorem flat_own : ∀ c j : Fin 8, (flat (place c (Fin.castAdd 8 j))).val = c.val * 8 + j.val := by decide +kernel
/-- The second half of constraint `c` is the next group. -/
theorem flat_next : ∀ c j : Fin 8, (flat (place c (Fin.natAdd 8 j))).val = (c + 1).val * 8 + j.val := by decide +kernel

/-- The table in one line, as the scatter-adds take it. -/
theorem index_of {V : IVec S8x16 32} (hV : V = table) (t : Fin 128) :
    broadcastInDim S128x1 ![0] bcast_S128_S128x1_0 (select (cmpi .slt (shapeCast S128 V shapeCasts_S8x16_S128) (broadcastInDim S128 ![] bcast_S_S128 (constantI S_ 32 0#32))) (addi (shapeCast S128 V shapeCasts_S8x16_S128) (broadcastInDim S128 ![] bcast_S_S128 (constantI S_ 32 64#32))) (shapeCast S128 V shapeCasts_S8x16_S128)) (ix2 t 0)
      = BitVec.ofNat 32 (flat t).val := by
  have ht : flat t = flat (place ⟨t.val / 16, by omega⟩ ⟨t.val % 16, by omega⟩) :=
    congrArg flat (Fin.ext (show t.val = t.val / 16 * 16 + t.val % 16 by omega))
  have h := (congrFun hV _).trans (table_at ⟨t.val / 16, by omega⟩ ⟨t.val % 16, by omega⟩)
  rw [ht]
  pointwise
  exact (congrArg (fun x => Scalar.select (IntOp.cmpi .slt x 0#32) (IntOp.addi x 64#32) x) h).trans
    (Routing.wrap_of_lt _ _ (small _))

/-! ## The gather -/

/-- THE GATHER at a row, a constraint and a place, of a table that holds variable `n` there. -/
theorem gather_at (x : FVec Ideal S4096x64 .f32) (idx : IVec S8x16x1 32) (b : Fin 4096) (c : Fin 8) (k : Fin 16) (n : Fin 64)
    (hn : idx (ix3 c k 0) = BitVec.ofNat 32 n.val) :
    Host.gather gather_S4096x64_S8x16x1_S4096x8x16_0_1_n_n_1_2_40961 x idx (ix3 b c k) = x (ix2 b n) := by
  unfold Host.gather
  refine congrArg x (funext fun a => Fin.ext ?_)
  have hs : gather_S4096x64_S8x16x1_S4096x8x16_0_1_n_n_1_2_40961.siIdx (ix3 b c k) ⟨0, by decide⟩ = ix3 c k 0 := by
    funext a
    match a with
    | ⟨0, _⟩ => rfl
    | ⟨1, _⟩ => rfl
    | ⟨2, _⟩ => rfl
  revert a
  refine Fin.forall_fin_two.2 ⟨?_, ?_⟩
  · show GatherDims.start _ _ _ _ + GatherDims.batchCoord _ _ _ + GatherDims.offCoord _ _ _ = b.val
    rw [GatherDims.batchCoord_eq_zero _ _ _ (by decide)]
    unfold GatherDims.start
    rw [dif_neg (by decide)]
    simp only [Nat.zero_add]
    rfl
  · show GatherDims.start _ _ _ _ + GatherDims.batchCoord _ _ _ + GatherDims.offCoord _ _ _ = n.val
    rw [GatherDims.batchCoord_eq_zero _ _ _ (by decide), GatherDims.offCoord_eq_zero _ _ _ (by decide)]
    unfold GatherDims.start
    rw [dif_pos (by decide)]
    refine (congrArg (fun q => min (BitVec.toInt (idx q)).toNat 63) hs).trans ?_
    rw [hn, toInt_small]
    have := n.isLt
    omega

/-! ## The scatter-adds -/

/-- Where update `(b', t)` of the averaging scatter lands. -/
theorem lands (idx : IVec S128x1 32) (hidx : ∀ t : Fin 128, idx (ix2 t 0) = BitVec.ofNat 32 (flat t).val)
    (b b' : Fin 4096) (n : Fin 64) (t : Fin 128) :
    scatter_S4096x64_S128x1_S4096x128_0_1_1_1.resultIdx? (ix2 b' t) idx = some (ix2 b n) ↔ b' = b ∧ flat t = n := by
  rw [Routing.resultIdx?_eq_some]
  have hs : scatter_S4096x64_S128x1_S4096x128_0_1_1_1.siIdx (ix2 b' t) ⟨0, by decide⟩ = ix2 t 0 := by
    funext a
    match a with
    | ⟨0, _⟩ => rfl
    | ⟨1, _⟩ => rfl
  have s0 : scatter_S4096x64_S128x1_S4096x128_0_1_1_1.start (ix2 b' t) idx 0 = 0 := by
    unfold ScatterDims.start; rw [dif_neg (by decide)]
  have s1 : scatter_S4096x64_S128x1_S4096x128_0_1_1_1.start (ix2 b' t) idx 1 = ((flat t).val : Int) := by
    unfold ScatterDims.start; rw [dif_pos (by decide)]
    exact (congrArg (fun q => BitVec.toInt (idx q)) hs).trans (by rw [hidx, toInt_small])
  have w0 : scatter_S4096x64_S128x1_S4096x128_0_1_1_1.window (ix2 b' t) 0 = b'.val := by rfl
  have w1 : scatter_S4096x64_S128x1_S4096x128_0_1_1_1.window (ix2 b' t) 1 = 0 := by rfl
  refine Fin.forall_fin_two.trans ?_
  rw [s0, s1, w0, w1, Fin.ext_iff, Fin.ext_iff]
  show 0 + (b'.val : Int) = (b.val : Int) ∧ ((flat t).val : Int) + ((0 : Nat) : Int) = (n.val : Int) ↔ _
  omega

/-- THE AVERAGING SCATTER at a row and a variable: its two updates. -/
theorem scatter_at (idx : IVec S128x1 32) (hidx : ∀ t : Fin 128, idx (ix2 t 0) = BitVec.ofNat 32 (flat t).val)
    (x : FVec Ideal S4096x64 .f32) (upd : FVec Ideal S4096x128 .f32) (b : Fin 4096) (g j : Fin 8) :
    Host.scatterAdd scatter_S4096x64_S128x1_S4096x128_0_1_1_1 x idx upd (ix2 b ⟨g.val * 8 + j.val, by omega⟩)
      = x (ix2 b ⟨g.val * 8 + j.val, by omega⟩) + (upd (ix2 b (own g j)) + upd (ix2 b (other g j))) := by
  show _ + ∑ q ∈ Finset.univ.filter _, upd q = _
  refine congrArg (_ + ·) ?_
  rw [show (Finset.univ.filter fun q => scatter_S4096x64_S128x1_S4096x128_0_1_1_1.resultIdx? q idx
      = some (ix2 b (⟨g.val * 8 + j.val, by omega⟩ : Fin 64))) = {ix2 b (own g j), ix2 b (other g j)} from ?_]
  · refine Finset.sum_pair fun e => own_ne_other g j ?_
    exact congrFun e 1
  · ext q
    obtain ⟨b', t, rfl⟩ : ∃ (b' : Fin 4096) (t : Fin 128), q = ix2 b' t := ⟨q 0, q 1, ValueIdx.eq_ix2 q⟩
    rw [Finset.mem_filter, Finset.mem_insert, Finset.mem_singleton, lands idx hidx, Fin.ext_iff (a := flat t)]
    refine (and_iff_right (Finset.mem_univ _)).trans ((and_congr_right fun _ => flat_iff g j t).trans ⟨?_, ?_⟩)
    · rintro ⟨rfl, rfl | rfl⟩
      exacts [Or.inl rfl, Or.inr rfl]
    · rintro (e | e)
      exacts [⟨congrFun e 0, Or.inl (congrFun e 1)⟩, ⟨congrFun e 0, Or.inr (congrFun e 1)⟩]

/-- Where update `t` of the counting scatter lands. -/
theorem lands_count (idx : IVec S128x1 32) (hidx : ∀ t : Fin 128, idx (ix2 t 0) = BitVec.ofNat 32 (flat t).val)
    (n : Fin 64) (t : Fin 128) :
    scatter_S64_S128x1_S128_n_0_0_1.resultIdx? (ix1 t) idx = some (ix1 n) ↔ flat t = n := by
  rw [Routing.resultIdx?_eq_some]
  have hs : scatter_S64_S128x1_S128_n_0_0_1.siIdx (ix1 t) ⟨0, by decide⟩ = ix2 t 0 := by
    funext a
    match a with
    | ⟨0, _⟩ => rfl
    | ⟨1, _⟩ => rfl
  have s0 : scatter_S64_S128x1_S128_n_0_0_1.start (ix1 t) idx 0 = ((flat t).val : Int) := by
    unfold ScatterDims.start; rw [dif_pos (by decide)]
    exact (congrArg (fun q => BitVec.toInt (idx q)) hs).trans (by rw [hidx, toInt_small])
  have w0 : scatter_S64_S128x1_S128_n_0_0_1.window (ix1 t) 0 = 0 := by rfl
  refine Fin.forall_fin_one.trans ?_
  rw [s0, w0, Fin.ext_iff]
  show ((flat t).val : Int) + ((0 : Nat) : Int) = (n.val : Int) ↔ _
  omega

/-- THE COUNTING SCATTER of ones at a variable: it stands at two places. -/
theorem count_at (idx : IVec S128x1 32) (hidx : ∀ t : Fin 128, idx (ix2 t 0) = BitVec.ofNat 32 (flat t).val)
    (x : FVec Ideal S64 .f32) (upd : FVec Ideal S128 .f32) (g j : Fin 8) :
    Host.scatterAdd scatter_S64_S128x1_S128_n_0_0_1 x idx upd (ix1 ⟨g.val * 8 + j.val, by omega⟩)
      = x (ix1 ⟨g.val * 8 + j.val, by omega⟩) + (upd (ix1 (own g j)) + upd (ix1 (other g j))) := by
  show _ + ∑ q ∈ Finset.univ.filter _, upd q = _
  refine congrArg (_ + ·) ?_
  rw [show (Finset.univ.filter fun q => scatter_S64_S128x1_S128_n_0_0_1.resultIdx? q idx
      = some (ix1 (⟨g.val * 8 + j.val, by omega⟩ : Fin 64))) = {ix1 (own g j), ix1 (other g j)} from ?_]
  · refine Finset.sum_pair fun e => own_ne_other g j ?_
    exact congrFun e 0
  · ext q
    obtain ⟨t, rfl⟩ : ∃ t : Fin 128, q = ix1 t := ⟨q 0, ValueIdx.eq_ix1 q⟩
    rw [Finset.mem_filter, Finset.mem_insert, Finset.mem_singleton, lands_count idx hidx, Fin.ext_iff]
    refine (and_iff_right (Finset.mem_univ _)).trans ((flat_iff g j t).trans (or_congr ?_ ?_)) <;>
      exact ⟨fun e => e ▸ rfl, fun e => congrFun e 0⟩

end Cert.Proof.RefIndex

end
-- ==== Proof.RefTrip.lean ====
/-
  One trip of the reference on one row: the gathered and corrected variables, the bisection's ends, the projections,
  the average and the corrections, each at an index; together one step of that row.
-/
module

public import proofs.«01_k».proof.Proof.RefIndex

@[expose] public section

set_option maxRecDepth 16384

noncomputable section

namespace Cert.Proof.RefTrip

open Cert.ReferenceIdeal Cert.ReferenceIdeal.Gen Cert.ReferenceIdeal.Value Cert.Proof.Dykstra Cert.Proof.RefIndex
open Idealize.ShloMosaic

/-- The contents of a device's buffers, over the extended reals. -/
abbrev Contents := Valuation τ sig (Elt Ideal)

/-- The word of `-∞` is the least element. -/
theorem neg_inf : Ideal.ofBits .f32 0xFF800000#32 = (⊥ : EReal) := by simp [Ideal.ofBits, Ideal.ieee]

/-- A quotient by one. -/
theorem div_one_at (x : EReal) : Ideal.div x 1 = x := by
  rw [← EReal.coe_one, Ideal.div_coe one_ne_zero, div_one, EReal.coe_one, mul_one]

/-- A quotient by two is a product with a half. -/
theorem div_two_at (x : EReal) : Ideal.div x (1 + 1) = x * half := by
  rw [show (1 + 1 : EReal) = ((2 : ℝ) : EReal) by norm_cast, Ideal.div_coe two_ne_zero, half_eq]

/-- The table of variables, as carried. -/
abbrev vars (W : Contents) : IVec S8x16 32 := W (Proc.devRef .tc main_v16_0)
/-- The signs. -/
abbrev sign (W : Contents) : S1x8x16.Idx → EReal := W (Proc.devRef .tc main_v16_1)
/-- The weights. -/
abbrev weight (W : Contents) : S1x8x16.Idx → EReal := W (Proc.devRef .tc main_v16_2)
/-- The bounds. -/
abbrev bound (W : Contents) : S1x8x1.Idx → EReal := W (Proc.devRef .tc main_v16_3)
/-- At how many places each variable stands. -/
abbrev count (W : Contents) : S64.Idx → EReal := W (Proc.devRef .tc main_v16_4)
/-- The variables. -/
abbrev now (W : Contents) : S4096x64.Idx → EReal := W (Proc.devRef .tc main_v16_8)
/-- The corrections. -/
abbrev corr (W : Contents) : S4096x8x16.Idx → EReal := W (Proc.devRef .tc main_v16_9)

/-- The weighted variables of each constraint. -/
abbrev weighted (W : Contents) : S4096x8x16.Idx → EReal := res_main_while0b_v32 W

/-- What the loop finds in the buffers no trip writes. -/
structure Consts (W : Contents) : Prop where
  /-- The table of variables. -/
  vars : RefTrip.vars W = table
  /-- No place is negated. -/
  sign : ∀ (c : Fin 8) (k : Fin 16), RefTrip.sign W (ix3 0 c k) = 0
  /-- Every weight is one. -/
  weight : ∀ (c : Fin 8) (k : Fin 16), RefTrip.weight W (ix3 0 c k) = 1
  /-- Every bound is eight. -/
  bound : ∀ c : Fin 8, RefTrip.bound W (ix3 0 c 0) = eight
  /-- Every variable stands at two places. -/
  count : ∀ g j : Fin 8, RefTrip.count W (ix1 ⟨g.val * 8 + j.val, by omega⟩) = 1 + 1

/-- Row `b` of the carried buffers, as a row's state. -/
def rowOf (W : Contents) (b : Fin 4096) : State :=
  (fun g j => now W (ix2 b ⟨g.val * 8 + j.val, by omega⟩),
   fun c j => corr W (ix3 b c (Fin.castAdd 8 j)),
   fun c j => corr W (ix3 b c (Fin.natAdd 8 j)))

variable {W : Contents} (hW : Consts W) (b : Fin 4096) (c : Fin 8) (j : Fin 8)
include hW

/-- The gathered and corrected variables. -/
theorem v25_at (k : Fin 16) : res_main_while0b_v25 W (ix3 b c k)
    = now W (ix2 b (flat (place c k)))
      + corr W (ix3 b c k) := by
  pointwise [res_main_while0b_v25]
  rw [gather_at _ _ b c k (flat (place c k))]
  pointwise
  rw [show W (Proc.devRef .tc main_v16_0) (ix2 c k) = _ from (congrFun hW.vars _).trans (table_at c k)]
  exact Routing.wrap_of_lt _ _ (small _)

/-- The weighted variables are the same. -/
theorem v32_at (k : Fin 16) : res_main_while0b_v32 W (ix3 b c k)
    = now W (ix2 b (flat (place c k)))
      + corr W (ix3 b c k) := by
  rw [← v25_at hW b c k]
  pointwise [res_main_while0b_v32]
  rw [show W (Proc.devRef .tc main_v16_2) (ix3 0 c k) = (1 : EReal) from hW.weight c k,
    show W (Proc.devRef .tc main_v16_1) (ix3 0 c k) = (0 : EReal) from hW.sign c k, one_mul, if_neg (lt_irrefl _)]

/-- The own group's half. -/
theorem v32_own : res_main_while0b_v32 W (ix3 b c (Fin.castAdd 8 j)) = ya (rowOf W b) c j := by
  rw [v32_at hW]
  exact congrArg (· + _) (congrArg (fun n => now W (ix2 b n)) (Fin.ext (flat_own c j)))

/-- The next group's half. -/
theorem v32_next : res_main_while0b_v32 W (ix3 b c (Fin.natAdd 8 j)) = yb (rowOf W b) c j := by
  rw [v32_at hW]
  exact congrArg (· + _) (congrArg (fun n => now W (ix2 b n)) (Fin.ext (flat_next c j)))

/-- The clipped variables. -/
theorem v33_at (k : Fin 16) : res_main_while0b_v33 W (ix3 b c k) = clip (res_main_while0b_v32 W (ix3 b c k)) := by
  pointwise [res_main_while0b_v33, id_eq]
  rfl

omit hW in
/-- The upper end of any sixteen values. -/
theorem upper_at (Y : FVec Ideal S4096x8x16 .f32) :
    maximumf (broadcastInDim S4096x8x1 ![0, 1] bcast_S4096x8_S4096x8x1_0_1 (Host.reduce FloatOps.maximumf Y (constant S_ .f32 0xFF800000#32) reducesTo_S4096x8x16_S4096x8_d2 h_S_)) (broadcastInDim S4096x8x1 ![] bcast_S_S4096x8x1 (constant S_ .f32 0x358637BD#32)) (ix3 b c 0)
      = max (Finset.univ.sup fun k : Fin 16 => Y (ix3 b c k)) tiny := by
  pointwise
  rw [neg_inf, fold_max]

/-- The bisection's upper end. -/
theorem v42_at : res_main_while0b_v42 W (ix3 b c 0) = top (ya (rowOf W b) c) (yb (rowOf W b) c) := by
  unfold res_main_while0b_v42
  refine (upper_at b c _).trans ?_
  rw [sup_pairs]
  simp only [v32_own hW, v32_next hW]
  rfl

/-! ## The bisection -/

omit hW in
/-- One halving of the reference's interval, as it writes it. -/
def halving (Y : FVec Ideal S4096x8x16 .f32) (B : FVec Ideal S1x8x1 .f32) (e : FVec Ideal S4096x8x1 .f32 × FVec Ideal S4096x8x1 .f32) :
    FVec Ideal S4096x8x1 .f32 × FVec Ideal S4096x8x1 .f32 :=
  let mid := mulf (broadcastInDim S4096x8x1 ![] bcast_S_S4096x8x1 (constant S_ .f32 0x3F000000#32)) (addf e.1 e.2)
  let over := cmpf .ogt (broadcastInDim S4096x8x1 ![0, 1] bcast_S4096x8_S4096x8x1_0_1 (Host.reduceAdd (minimumf (broadcastInDim S4096x8x16 ![] bcast_S_S4096x8x16 (id (constant S_ .f32 0x3F800000#32))) (maximumf (broadcastInDim S4096x8x16 ![] bcast_S_S4096x8x16 (id (constant S_ .f32 0x00000000#32))) (subf Y (broadcastInDim S4096x8x16 ![0, 1, 2] bcast_S4096x8x1_S4096x8x16_0_1_2 mid)))) (constant S_ .f32 0x00000000#32) reducesTo_S4096x8x16_S4096x8_d2 h_S_)) (broadcastInDim S4096x8x1 ![0, 1, 2] bcast_S1x8x1_S4096x8x1_0_1_2 B)
  (select over mid e.1, select over e.2 mid)

omit hW in
/-- The bisection's pairs of ends, first to last. -/
def ends (W : Contents) : List (FVec Ideal S4096x8x1 .f32 × FVec Ideal S4096x8x1 .f32) := [
  (res_main_while0b_v38 W, res_main_while0b_v42 W), (res_main_while0b_v53 W, res_main_while0b_v54 W),
  (res_main_while0b_v65 W, res_main_while0b_v66 W), (res_main_while0b_v77 W, res_main_while0b_v78 W),
  (res_main_while0b_v89 W, res_main_while0b_v90 W), (res_main_while0b_v101 W, res_main_while0b_v102 W),
  (res_main_while0b_v113 W, res_main_while0b_v114 W), (res_main_while0b_v125 W, res_main_while0b_v126 W),
  (res_main_while0b_v137 W, res_main_while0b_v138 W), (res_main_while0b_v149 W, res_main_while0b_v150 W),
  (res_main_while0b_v161 W, res_main_while0b_v162 W), (res_main_while0b_v173 W, res_main_while0b_v174 W),
  (res_main_while0b_v185 W, res_main_while0b_v186 W), (res_main_while0b_v197 W, res_main_while0b_v198 W),
  (res_main_while0b_v209 W, res_main_while0b_v210 W), (res_main_while0b_v221 W, res_main_while0b_v222 W),
  (res_main_while0b_v233 W, res_main_while0b_v234 W), (res_main_while0b_v245 W, res_main_while0b_v246 W),
  (res_main_while0b_v257 W, res_main_while0b_v258 W), (res_main_while0b_v269 W, res_main_while0b_v270 W),
  (res_main_while0b_v281 W, res_main_while0b_v282 W), (res_main_while0b_v293 W, res_main_while0b_v294 W),
  (res_main_while0b_v305 W, res_main_while0b_v306 W), (res_main_while0b_v317 W, res_main_while0b_v318 W),
  (res_main_while0b_v329 W, res_main_while0b_v330 W),
  (select (res_main_while0b_v340 W) (res_main_while0b_v333 W) (res_main_while0b_v329 W),
   select (res_main_while0b_v340 W) (res_main_while0b_v330 W) (res_main_while0b_v333 W))]

omit hW in
/-- Each pair is the halving of the one before. -/
theorem ends_chain (W : Contents) :
    (ends W).IsChain fun e e' => e' = halving (res_main_while0b_v32 W) (W (Proc.devRef .tc main_v16_3)) e := by
  unfold ends
  repeat' constructor

omit hW in
/-- The last of a list each of whose entries is `f` of the one before. -/
theorem chain_last {A : Type} (f : A → A) : ∀ (l : List A) (x : A), (x :: l).IsChain (fun e e' => e' = f e) →
    (x :: l).getLast (List.cons_ne_nil _ _) = f^[l.length] x
  | [], _, _ => rfl
  | y :: l, x, h => by
    rw [List.isChain_cons_cons] at h
    rw [List.getLast_cons (List.cons_ne_nil _ _), chain_last f l y h.2, h.1]
    rfl

omit hW in
/-- The last pair is twenty-five halvings of the first. -/
theorem ends_last (W : Contents) :
    (select (res_main_while0b_v340 W) (res_main_while0b_v333 W) (res_main_while0b_v329 W),
      select (res_main_while0b_v340 W) (res_main_while0b_v330 W) (res_main_while0b_v333 W))
      = (halving (res_main_while0b_v32 W) (W (Proc.devRef .tc main_v16_3)))^[25] (res_main_while0b_v38 W, res_main_while0b_v42 W) :=
  chain_last _ _ _ (ends_chain W)

/-- ONE HALVING at a row and a constraint. -/
theorem halving_at (e : FVec Ideal S4096x8x1 .f32 × FVec Ideal S4096x8x1 .f32) :
    (let r := halving (res_main_while0b_v32 W) (W (Proc.devRef .tc main_v16_3)) e; (r.1 (ix3 b c 0), r.2 (ix3 b c 0)))
      = split (ya (rowOf W b) c) (yb (rowOf W b) c) (e.1 (ix3 b c 0), e.2 (ix3 b c 0)) := by
  pointwise [halving, id_eq]
  rw [show W (Proc.devRef .tc main_v16_3) (ix3 0 c 0) = eight from hW.bound c, sum_pairs]
  simp only [v32_own hW, v32_next hW]
  rfl

/-- THE BISECTION at a row and a constraint. -/
theorem bisect_at (hb : Below (rowOf W b)) :
    mulf (broadcastInDim S4096x8x1 ![] bcast_S_S4096x8x1 (constant S_ .f32 0x3F000000#32))
        (addf (select (res_main_while0b_v340 W) (res_main_while0b_v333 W) (res_main_while0b_v329 W))
          (select (res_main_while0b_v340 W) (res_main_while0b_v330 W) (res_main_while0b_v333 W))) (ix3 b c 0)
      = thresh (ya (rowOf W b) c) (yb (rowOf W b) c) := by
  rw [← threshEnds_eq _ _ (hb.ya c) (hb.yb c)]
  have hs : Function.Semiconj (fun e : FVec Ideal S4096x8x1 .f32 × FVec Ideal S4096x8x1 .f32 => (e.1 (ix3 b c 0), e.2 (ix3 b c 0)))
      (halving (res_main_while0b_v32 W) (W (Proc.devRef .tc main_v16_3))) (split (ya (rowOf W b) c) (yb (rowOf W b) c)) :=
    halving_at hW b c
  have h := hs.iterate_right 25 (res_main_while0b_v38 W, res_main_while0b_v42 W)
  rw [← ends_last] at h
  have h0 : res_main_while0b_v38 W (ix3 b c 0) = (0 : EReal) := by pointwise [res_main_while0b_v38]
  dsimp only at h
  rw [h0, v42_at hW] at h
  unfold threshEnds
  rw [← h]
  generalize select (res_main_while0b_v340 W) (res_main_while0b_v333 W) (res_main_while0b_v329 W) = lo
  generalize select (res_main_while0b_v340 W) (res_main_while0b_v330 W) (res_main_while0b_v333 W) = hi
  pointwise

/-! ## The projections -/

/-- The sum before any lowering. -/
theorem plain_at : Host.reduceAdd (res_main_while0b_v33 W) (constant S_ .f32 0x00000000#32) reducesTo_S4096x8x16_S4096x8_d2 h_S_ (ix2 b c)
    = plain (ya (rowOf W b) c) (yb (rowOf W b) c) := by
  pointwise
  rw [sum_pairs]
  simp only [v33_at hW, v32_own hW, v32_next hW]
  rfl

/-- THE PROJECTION at a row, a constraint and a place. -/
theorem v356_at (hb : Below (rowOf W b)) (k : Fin 16) : res_main_while0b_v356 W (ix3 b c k)
    = proj (ya (rowOf W b) c) (yb (rowOf W b) c) (res_main_while0b_v32 W (ix3 b c k)) := by
  have h1 := bisect_at hW b c hb
  have h2 := plain_at hW b c
  unfold proj
  rw [← h1, ← h2, ← v33_at hW]
  pointwise [res_main_while0b_v356, res_main_while0b_v351, id_eq]
  rw [show W (Proc.devRef .tc main_v16_1) (ix3 0 c k) = (0 : EReal) from hW.sign c k,
    show W (Proc.devRef .tc main_v16_2) (ix3 0 c k) = (1 : EReal) from hW.weight c k,
    show W (Proc.devRef .tc main_v16_3) (ix3 0 c 0) = eight from hW.bound c, if_neg (lt_irrefl _), div_one_at]
  rfl

/-! ## The average and the corrections -/

omit hW in
/-- The places of all constraints in one line. -/
theorem line_at (Y : FVec Ideal S4096x8x16 .f32) (k : Fin 16) :
    shapeCast S4096x128 Y shapeCasts_S4096x8x16_S4096x128 (ix2 b (place c k)) = Y (ix3 b c k) := by
  pointwise
  blk_ext [place]

/-- The places' indices, as the scatter-adds take them. -/
theorem index_at (t : Fin 128) :
    broadcastInDim S128x1 ![0] bcast_S128_S128x1_0 (select (cmpi .slt (res_main_while0b_v359 W) (broadcastInDim S128 ![] bcast_S_S128 (constantI S_ 32 0#32))) (addi (res_main_while0b_v359 W) (broadcastInDim S128 ![] bcast_S_S128 (constantI S_ 32 64#32))) (res_main_while0b_v359 W)) (ix2 t 0)
      = BitVec.ofNat 32 (flat t).val := by
  exact index_of hW.vars t

/-- The variables after the trip. -/
theorem now_at (hb : Below (rowOf W b)) (g : Fin 8) : now (STEP W) (ix2 b ⟨g.val * 8 + j.val, by omega⟩)
    = (za (rowOf W b) g j + zb (rowOf W b) (g - 1) j) * half := by
  refine (congrFun (STEP_main_v16_8 W) _).trans ?_
  pointwise [step_main_v16_8, id_eq]
  rw [scatter_at _ (index_at hW)]
  have h0 : broadcastInDim S4096x64 ![] bcast_S_S4096x64 (constant (F := Ideal) S_ .f32 0x00000000#32) (ix2 b (⟨g.val * 8 + j.val, by omega⟩ : Fin 64)) = (0 : EReal) := by
    pointwise
  have h1 : shapeCast S4096x128 (res_main_while0b_v356 W) shapeCasts_S4096x8x16_S4096x128 (ix2 b (own g j)) = za (rowOf W b) g j :=
    (line_at b g _ _).trans ((v356_at hW b g hb _).trans (congrArg _ (v32_own hW b g j)))
  have h2 : shapeCast S4096x128 (res_main_while0b_v356 W) shapeCasts_S4096x8x16_S4096x128 (ix2 b (other g j)) = zb (rowOf W b) (g - 1) j :=
    (line_at b (g - 1) _ _).trans ((v356_at hW b (g - 1) hb _).trans (congrArg _ (v32_next hW b (g - 1) j)))
  have hp : (0 : EReal) < 1 + 1 := by norm_num
  have hm : max (1 + 1 : EReal) 1 = 1 + 1 := max_eq_left (by norm_num)
  rw [show W (Proc.devRef .tc main_v16_4) (ix1 ⟨g.val * 8 + j.val, by omega⟩) = (1 + 1 : EReal) from hW.count g j,
    h0, h1, h2, zero_add, if_pos hp, hm, div_two_at]

/-- The corrections after the trip. -/
theorem corr_at (hb : Below (rowOf W b)) (k : Fin 16) : corr (STEP W) (ix3 b c k)
    = weighted W (ix3 b c k) - proj (ya (rowOf W b) c) (yb (rowOf W b) c) (res_main_while0b_v32 W (ix3 b c k)) := by
  refine (congrFun (STEP_main_v16_9 W) _).trans ?_
  rw [← v356_at hW b c hb k, show weighted W (ix3 b c k) = _ from (v32_at hW b c k).trans (v25_at hW b c k).symm]
  pointwise [step_main_v16_9, id_eq]

/-- ONE TRIP on a row is one step of it. -/
theorem trip_row (hb : Below (rowOf W b)) : rowOf (STEP W) b = step (rowOf W b) := by
  refine Prod.ext (funext fun g => funext fun j => ?_) (Prod.ext (funext fun c => funext fun j => ?_) (funext fun c => funext fun j => ?_))
  · exact now_at hW b j hb g
  · exact (corr_at hW b c hb _).trans (congrArg (fun x : EReal => x - proj (ya (rowOf W b) c) (yb (rowOf W b) c) x) (v32_own hW b c j))
  · exact (corr_at hW b c hb _).trans (congrArg (fun x : EReal => x - proj (ya (rowOf W b) c) (yb (rowOf W b) c) x) (v32_next hW b c j))

/-- No trip writes what it finds constant. -/
theorem Consts.step : Consts (STEP W) where
  vars := (STEP_main_v16_0 W).trans hW.vars
  sign c k := (congrFun (STEP_main_v16_1 W) _).trans (hW.sign c k)
  weight c k := (congrFun (STEP_main_v16_2 W) _).trans (hW.weight c k)
  bound c := (congrFun (STEP_main_v16_3 W) _).trans (hW.bound c)
  count g j := (congrFun (STEP_main_v16_4 W) _).trans (hW.count g j)

end Cert.Proof.RefTrip

end
-- ==== Proof.RefValue.lean ====
/-
  What the reference's result holds: row by row, twenty steps from the scores, which is what the kernel returns.
-/
module

public import proofs.«01_k».proof.Proof.RefTrip
public import proofs.«01_k».proof.Proof.KernelValue

@[expose] public section

set_option maxRecDepth 16384

noncomputable section

namespace Cert.Proof.RefValue

open Cert.ReferenceIdeal Cert.ReferenceIdeal.Gen Cert.ReferenceIdeal.Value Cert.Proof.Dykstra Cert.Proof.RefIndex Cert.Proof.RefTrip
open Idealize.ShloMosaic Idealize.ShloMosaic.TcCoe Idealize.SL.Sem Idealize.ShloMosaic.StableHlo

variable (m : (ℓ : Loc nD τ sig) → Buf (Elt Ideal) ℓ) (c : Dev nD)

/-- What the loop finds on entering. -/
abbrev entered : Contents := entryContents preI m c

/-- The scores. -/
abbrev scores : FVec Ideal S4096x64 .f32 := m ((c.tc : Thread nD τ).loc main_arg0)

/-! ## The loop's entry -/

/-- The table enters as the literal. -/
theorem vars_entry : RefTrip.vars (entered m c) = table := by
  show entryContents preI m c (Proc.devRef .tc main_v16_0) = _
  simp only [entryContents, afterL_cons, afterL_nil]
  after_reads_simp
  rfl

/-- The signs enter as zeros. -/
theorem sign_entry : RefTrip.sign (entered m c)
    = broadcastInDim S1x8x16 ![1, 2] bcast_S8x16_S1x8x16_1_2 (constant (F := Ideal) S8x16 .f32 0x00000000#32) := by
  show entryContents preI m c (Proc.devRef .tc main_v16_1) = _
  simp only [entryContents, afterL_cons, afterL_nil]
  after_reads_simp
  rfl

/-- The weights enter as ones kept off zero. -/
theorem weight_entry : RefTrip.weight (entered m c)
    = maximumf (broadcastInDim S1x8x16 ![1, 2] bcast_S8x16_S1x8x16_1_2 (constant (F := Ideal) S8x16 .f32 0x3F800000#32))
        (broadcastInDim S1x8x16 ![] bcast_S_S1x8x16 (constant S_ .f32 0x3089705F#32)) := by
  show entryContents preI m c (Proc.devRef .tc main_v16_2) = _
  simp only [entryContents, afterL_cons, afterL_nil]
  after_reads_simp
  rfl

/-- The bounds enter as eights. -/
theorem bound_entry : RefTrip.bound (entered m c)
    = shapeCast S1x8x1 (constant (F := Ideal) S8 .f32 0x41000000#32) shapeCasts_S8_S1x8x1 := by
  show entryContents preI m c (Proc.devRef .tc main_v16_3) = _
  simp only [entryContents, afterL_cons, afterL_nil]
  after_reads_simp
  rfl

/-- The table in one line, wrapped. -/
abbrev line : IVec S128x1 32 :=
  broadcastInDim S128x1 ![0] bcast_S128_S128x1_0 (select (cmpi .slt (shapeCast S128 table shapeCasts_S8x16_S128) (broadcastInDim S128 ![] bcast_S_S128 (constantI S_ 32 0#32))) (addi (shapeCast S128 table shapeCasts_S8x16_S128) (broadcastInDim S128 ![] bcast_S_S128 (constantI S_ 32 64#32))) (shapeCast S128 table shapeCasts_S8x16_S128))

/-- The counts enter as the places of each variable, added up. -/
theorem count_entry : RefTrip.count (entered m c)
    = Host.scatterAdd scatter_S64_S128x1_S128_n_0_0_1 (broadcastInDim S64 ![] bcast_S_S64 (constant (F := Ideal) S_ .f32 0x00000000#32)) line
        (broadcastInDim S128 ![] bcast_S_S128 (constant (F := Ideal) S_ .f32 0x3F800000#32)) := by
  show entryContents preI m c (Proc.devRef .tc main_v16_4) = _
  simp only [entryContents, afterL_cons, afterL_nil]
  after_reads_simp
  rfl

/-- The variables enter as the scores. -/
theorem now_entry : now (entered m c) = scores m c := by
  show entryContents preI m c (Proc.devRef .tc main_v16_8) = _
  simp only [entryContents, afterL_cons, afterL_nil]
  after_reads_simp
  rfl

/-- The corrections enter as zeros. -/
theorem corr_entry : corr (entered m c)
    = broadcastInDim S4096x8x16 ![] bcast_S_S4096x8x16 (constant (F := Ideal) S_ .f32 0x00000000#32) := by
  show entryContents preI m c (Proc.devRef .tc main_v16_9) = _
  simp only [entryContents, afterL_cons, afterL_nil]
  after_reads_simp
  rfl

/-- The weights' floor is below one. -/
theorem floor_le : Ideal.ofBits .f32 0x3089705F#32 ≤ (1 : EReal) := by
  simp [Ideal.ofBits, Ideal.ieee]
  rw [← EReal.coe_mul, ← EReal.coe_one, EReal.coe_le_coe_iff]
  norm_num

/-- WHAT THE LOOP FINDS is what its trips need. -/
theorem consts : Consts (entered m c) where
  vars := vars_entry m c
  sign g k := by
    rw [show RefTrip.sign (entered m c) = _ from sign_entry m c]
    pointwise
  weight g k := by
    rw [show RefTrip.weight (entered m c) = _ from weight_entry m c]
    pointwise
    exact max_eq_left floor_le
  bound g := by
    rw [show RefTrip.bound (entered m c) = _ from bound_entry m c]
    pointwise
  count g j := by
    rw [show RefTrip.count (entered m c) = _ from count_entry m c, count_at _ (index_of rfl)]
    pointwise

/-- Row `b` enters as the kernel's row `b` does. -/
theorem row_entry (b : Fin 4096) : rowOf (entered m c) b = KernelValue.row (scores m c) b := by
  refine Prod.ext (funext fun g => funext fun j => congrFun (now_entry m c) _) (Prod.ext (funext fun g => funext fun j => ?_) (funext fun g => funext fun j => ?_)) <;>
  · refine (congrFun (corr_entry m c) _).trans ?_
    pointwise
    rfl

/-! ## All trips -/

/-- A row of scores below `+∞` starts below `+∞`. -/
theorem row_below (X : FVec Ideal S4096x64 .f32) (hX : ∀ i, X i < (⊤ : EReal)) (b : Fin 4096) : Below (KernelValue.row X b) :=
  fun g j => ⟨hX _, EReal.zero_lt_top, EReal.zero_lt_top⟩

/-- After `n` trips a row has taken `n` steps, and the constants stand. -/
theorem trips (hX : ∀ i, scores m c i < (⊤ : EReal)) : ∀ n : ℕ, Consts (STEP^[n] (entered m c))
    ∧ ∀ b, rowOf (STEP^[n] (entered m c)) b = step^[n] (KernelValue.row (scores m c) b)
  | 0 => ⟨consts m c, row_entry m c⟩
  | n + 1 => by
    have h := trips hX n
    rw [Function.iterate_succ_apply']
    refine ⟨h.1.step, fun b => ?_⟩
    rw [trip_row h.1 b (by rw [h.2 b]; exact (row_below _ hX b).iterate n), h.2 b, Function.iterate_succ_apply']

/-- The variables at a group and a member are the row's. -/
theorem now_row (W : Contents) (b : Fin 4096) (g j : Fin 8) :
    (rowOf W b).1 g j = now W (ix2 b ⟨g.val * 8 + j.val, by omega⟩) := rfl

/-- THE REFERENCE'S RESULT is the kernel's. -/
theorem final (hX : ∀ i, scores m c i < (⊤ : EReal)) :
    now (STEP^[20] (entered m c)) = KernelValue.result (scores m c) :=
  KernelValue.ext_at _ _ fun b g j => by
    refine Eq.trans ?_ (KernelValue.result_at (scores m c) g j b).symm
    rw [← now_row, (trips m c hX 20).2 b]
    rfl

/-- THE REFERENCE'S RUN: from scores below `+∞` it ends with the kernel's result of them, the scores as launched. -/
theorem run (ρ : Dev nD → PrngReg) (hX : ∀ (c : Dev nD) i, scores m c i < (⊤ : EReal)) :
    θ_run defs (onTc (τ := τ) (main (F := Ideal))) ⟨m, fun _ => 0, ρ⟩ (fun r => ∀ c : Dev nD,
      r.2.mem ((c.tc : Thread nD τ).loc main_v16_8) = KernelValue.result (scores m c)
        ∧ r.2.mem ((c.tc : Thread nD τ).loc main_arg0) = m ((c.tc : Thread nD τ).loc main_arg0)) :=
  (θ_run defs _ _).mono (fun r h c => ⟨(h c).1.trans (final m c (hX c)), (h c).2⟩) (Value.run m ρ)

end Cert.Proof.RefValue

end
-- ==== Proof.lean ====
/-
  The proof of `Cert.Claim`: the quiescent frames of the kernel at both instances and of the reference, the (empty)
  list of rewrites, and the equation of the kernel's result and the reference's over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.ReferenceRun
public import proofs.«01_k».proof.Proof.KernelValue
public import proofs.«01_k».proof.Proof.RefValue

@[expose] public section

noncomputable section

namespace Cert.Proof

open Idealize.ShloMosaic Idealize.ShloMosaic.TcCoe Idealize.SL.Sem

/-- The precondition's one side condition: a scalar spreads over the scores' shape. -/
theorem pre_facts : Cert.Pre_below_infinity.Facts := ⟨by decide⟩

/-- The word of `+∞` is the greatest element. -/
theorem pos_inf : Ideal.ofBits .f32 0x7F800000#32 = (⊤ : EReal) := by simp [Ideal.ofBits, Ideal.ieee]

/-- The precondition, read at an index: the score there is below `+∞`. -/
theorem below_at [Cert.Pre_below_infinity.Facts] (X : FVec Ideal Cert.KernelIdeal.S4096x64 .f32)
    (h : Cert.Pre_below_infinity.fn (F := Ideal) X = fun _ => 1#1) (i : Cert.KernelIdeal.S4096x64.Idx) : X i < (⊤ : EReal) := by
  have hi := congrFun h i
  unfold Cert.Pre_below_infinity.fn at hi
  pointwise at hi
  rw [pos_inf] at hi
  by_contra hn
  rw [decide_eq_false hn] at hi
  exact absurd hi (by decide)

/-- THE EQUATION: from the same scores, all below `+∞`, both programs end with `KernelValue.result` of them. -/
theorem algebraic : Cert.algebraic_KernelIdeal_ReferenceIdeal_pre_below_infinity (hKernelIdeal := Cert.KernelIdeal.Gen.facts)
    (hReferenceIdeal := Cert.ReferenceIdeal.Gen.facts) (hPre_below_infinity := pre_facts) := by
  intro m g m' g' hpre hsame
  refine ⟨fun c => KernelValue.result (m ((c.tc : Thread Cert.KernelIdeal.nD Cert.KernelIdeal.τ).loc Cert.KernelIdeal.main_arg0)),
    KernelValue.run m g, ?_⟩
  refine (θ_run Cert.ReferenceIdeal.defs _ _).mono (fun r h c => ⟨(h c).1.trans (congrArg KernelValue.result (hsame c)), (h c).2⟩)
    (RefValue.run m' g' fun c i => ?_)
  have hi := @below_at pre_facts _ (hpre c) i
  exact lt_of_eq_of_lt (α := EReal) (congrFun (hsame c) i) hi

/-- THE CLAIM. -/
theorem claim : Cert.Claim := ⟨Cert.Kernel.Gen.facts, Cert.KernelIdeal.Gen.facts, Cert.ReferenceIdeal.Gen.facts, pre_facts,
  fun m g _ => Kernel.quiescent m g, fun m g _ => KernelIdeal.quiescent m g, fun m g _ => KernelIdeal.quiescent m g,
  fun m g _ => Reference.quiescent m g, fun m g _ => Reference.quiescent m g, trivial, algebraic⟩

end Cert.Proof

end
